-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S1 : Shape := ⟨1, ![1]⟩
abbrev S_ : Shape := ⟨0, ![]⟩
abbrev S1x1 : Shape := ⟨2, ![1, 1]⟩
abbrev S4096x256 : Shape := ⟨2, ![4096, 256]⟩
abbrev S512x2048 : Shape := ⟨2, ![512, 2048]⟩
abbrev S8 : Shape := ⟨1, ![8]⟩
abbrev S512x256 : Shape := ⟨2, ![512, 256]⟩

abbrev nBuf : Space → Nat
  | .hbm => 15
  | .vmem => 7
  | .smem => 2
  | _ => 0

abbrev bufTy : (tb : Table) → Fin (tcTables nBuf tb) → BufTy
  | .hbm, ⟨0, _⟩ => ⟨S512x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4096x256, .f32⟩
  | .local _ .vmem, ⟨0, _⟩ => ⟨S512x4096, .fp8e5m2⟩
  | .local _ .vmem, ⟨1, _⟩ => ⟨S4096x256, .fp8e5m2⟩
  | .local _ .vmem, ⟨2, _⟩ => ⟨S4096x256, .fp8e5m2⟩
  | .local _ .vmem, ⟨3, _⟩ => ⟨S4096x256, .f32⟩
  | .local _ .vmem, ⟨4, _⟩ => ⟨S512x4096, .fp8e5m2⟩
  | .local _ .vmem, ⟨5, _⟩ => ⟨S512x2048, .bf16⟩
  | .local _ .vmem, ⟨6, _⟩ => ⟨S512x2048, .bf16⟩
  | .local _ .smem, ⟨0, _⟩ => ⟨S1, .i32⟩
  | .local _ .smem, ⟨1, _⟩ => ⟨S1x1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v10 : Ref sig .tc := ⟨.hbm, 14, rfl⟩
abbrev main_v9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 8
abbrev τ : Topo := Topo.v7x

variable {F : FTy → Type} [FloatOps F]

abbrev grid0 : Pipeline.Grid := ⟨1, ![8], ![false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 : Nat :=
  let c0_i32_13 : BitVec 32 := 0#32
  let c0_i32_11 : BitVec 32 := 0#32
  let c1_i32_12 : BitVec 32 := 1#32
  let v22 : BitVec 32 := Scalar.muli c0_i32_11 c1_i32_12
  let v23 : BitVec 32 := Scalar.addi c0_i32_13 v22
  v23.toNat
def k0_dev2 : Nat :=
  let c0_i32_17 : BitVec 32 := 0#32
  let c1_i32_15 : BitVec 32 := 1#32
  let c1_i32_16 : BitVec 32 := 1#32
  let v24 : BitVec 32 := Scalar.muli c1_i32_15 c1_i32_16
  let v25 : BitVec 32 := Scalar.addi c0_i32_17 v24
  v25.toNat
def k0_dev3 : Nat :=
  let c0_i32_20 : BitVec 32 := 0#32
  let c2_i32 : BitVec 32 := 2#32
  let c1_i32_19 : BitVec 32 := 1#32
  let v26 : BitVec 32 := Scalar.muli c2_i32 c1_i32_19
  let v27 : BitVec 32 := Scalar.addi c0_i32_20 v26
  v27.toNat
def k0_dev4 : Nat :=
  let c0_i32_23 : BitVec 32 := 0#32
  let c3_i32 : BitVec 32 := 3#32
  let c1_i32_22 : BitVec 32 := 1#32
  let v28 : BitVec 32 := Scalar.muli c3_i32 c1_i32_22
  let v29 : BitVec 32 := Scalar.addi c0_i32_23 v28
  v29.toNat
def k0_dev5 : Nat :=
  let c0_i32_26 : BitVec 32 := 0#32
  let c4_i32 : BitVec 32 := 4#32
  let c1_i32_25 : BitVec 32 := 1#32
  let v30 : BitVec 32 := Scalar.muli c4_i32 c1_i32_25
  let v31 : BitVec 32 := Scalar.addi c0_i32_26 v30
  v31.toNat
def k0_dev6 : Nat :=
  let c0_i32_29 : BitVec 32 := 0#32
  let c5_i32 : BitVec 32 := 5#32
  let c1_i32_28 : BitVec 32 := 1#32
  let v32 : BitVec 32 := Scalar.muli c5_i32 c1_i32_28
  let v33 : BitVec 32 := Scalar.addi c0_i32_29 v32
  v33.toNat
def k0_dev7 : Nat :=
  let c0_i32_32 : BitVec 32 := 0#32
  let c6_i32 : BitVec 32 := 6#32
  let c1_i32_31 : BitVec 32 := 1#32
  let v34 : BitVec 32 := Scalar.muli c6_i32 c1_i32_31
  let v35 : BitVec 32 := Scalar.addi c0_i32_32 v34
  v35.toNat
def k0_dev8 : Nat :=
  let c0_i32_36 : BitVec 32 := 0#32
  let c7_i32_34 : BitVec 32 := 7#32
  let c1_i32_35 : BitVec 32 := 1#32
  let v36 : BitVec 32 := Scalar.muli c7_i32_34 c1_i32_35
  let v37 : BitVec 32 := Scalar.addi c0_i32_36 v36
  v37.toNat
def k0_cond2 (i : grid0.Coords) : BitVec 1 :=
  let arg0 : BitVec 32 := BitVec.ofNat 32 (i 0).val
  let c7_i32 : BitVec 32 := 7#32
  let v16 : BitVec 1 := Scalar.cmpi .slt arg0 c7_i32
  let v17 : BitVec 32 := Scalar.extui v16
  let c0_i32_7 : BitVec 32 := 0#32
  let v18 : BitVec 1 := Scalar.cmpi .ne v17 c0_i32_7
  v18

def k0_off1 (i : grid0.Coords) : Fin 2 → Nat :=
  let c0_11 : Index := 0#32
  let arg0 : BitVec 32 := BitVec.ofNat 32 (i 0).val
  let c1_i32_10 : BitVec 32 := 1#32
  let v22 : BitVec 32 := Scalar.addi arg0 c1_i32_10
  let c256_i32 : BitVec 32 := 256#32
  let v24 : BitVec 32 := Scalar.muli v22 c256_i32
  let v25 : Index := Scalar.indexCast v24
  ![0, v25.toNat]
def k0_off2 (i : grid0.Coords) : Fin 1 → Nat :=
  let arg0 : BitVec 32 := BitVec.ofNat 32 (i 0).val
  let c1_i32_10 : BitVec 32 := 1#32
  let v22 : BitVec 32 := Scalar.addi arg0 c1_i32_10
  ![v22.toNat]
def k0_off3 (i : grid0.Coords) : Fin 2 → Nat :=
  let c0_i32_17 : BitVec 32 := 0#32
  let arg0 : BitVec 32 := BitVec.ofNat 32 (i 0).val
  let c1_i32_10 : BitVec 32 := 1#32
  let v22 : BitVec 32 := Scalar.addi arg0 c1_i32_10
  let c256_i32_13 : BitVec 32 := 256#32
  let v30 : BitVec 32 := Scalar.muli v22 c256_i32_13
  ![0, v30.toNat]
def k0_dev9 (i : grid0.Coords) (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let arg0 : BitVec 32 := BitVec.ofNat 32 (i 0).val
  let c1_i32_10 : BitVec 32 := 1#32
  let v22 : BitVec 32 := Scalar.addi arg0 c1_i32_10
  let v31 : BitVec 32 := Scalar.addi v2 v22
  let c8_i32_14 : BitVec 32 := 8#32
  let v32 : BitVec 32 := Scalar.remsi v31 c8_i32_14
  let c1_i32_15 : BitVec 32 := 1#32
  let v33 : BitVec 32 := Scalar.muli v32 c1_i32_15
  let v34 : BitVec 32 := Scalar.addi c0_i32_16 v33
  v34.toNat
def k0_cond3 (i : grid0.Coords) : BitVec 1 :=
  let arg0 : BitVec 32 := BitVec.ofNat 32 (i 0).val
  let c7_i32_8 : BitVec 32 := 7#32
  let v19 : BitVec 1 := Scalar.cmpi .eq arg0 c7_i32_8
  let v20 : BitVec 32 := Scalar.extui v19
  let c0_i32_9 : BitVec 32 := 0#32
  let v21 : BitVec 1 := Scalar.cmpi .ne v20 c0_i32_9
  v21

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v22 : BitVec 32 := Scalar.muli v2 c512_i32
  let v23 : Index := Scalar.indexCast v22
  let c0_10 : Index := 0#32
  ![v23.toNat, 0]
def k0_off5 (d0 : Dev nD) (c1_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.subi v2 c1_i32_11
  let c8_i32_12 : BitVec 32 := 8#32
  let v26 : BitVec 32 := Scalar.addi v25 c8_i32_12
  let c8_i32_13 : BitVec 32 := 8#32
  let v27 : BitVec 32 := Scalar.remsi v26 c8_i32_13
  let c512_i32_24 : BitVec 32 := 512#32
  let v38 : BitVec 32 := Scalar.muli v27 c512_i32_24
  let v39 : Index := Scalar.indexCast v38
  let c0_25 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c1_i32 : BitVec 32 := 1#32
  let v2 : BitVec 32 := Scalar.addi v1 c1_i32
  let c8_i32 : BitVec 32 := 8#32
  let v3 : BitVec 32 := Scalar.remsi v2 c8_i32
  let c0_i32 : BitVec 32 := 0#32
  let c0_i32_0 : BitVec 32 := 0#32
  ![c0_i32.toNat, v3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
  The exchange between the eight devices, as a schedule of rounds: the cells, the slots of the two exchange buffers, what
  each cell's units hand over, what every device owes at launch, and the levels its waits are ordered by.

  Device `c` computes, at grid point `d`, the block of its rows against the columns of device `c + d + 1`; for `d < 7` it
  writes the block into slot `d + 1` of its send buffer and copies that slot into slot `d + 1` of the receive buffer of
  device `c + d + 1`. So slot `s` of device `c`'s receive buffer is written by device `c - s`, and no other.

  * Barrier cell of device `p`: one round of eight units, the unit from device `p + s` handing over slot `s` of that
    device's receive buffer (nothing for `s = 0`).
  * Receive cell `s` of device `p`: one round, paid by the copy of device `p - s`: the slot back, holding its block.
  * Send cell `s` of device `c`: one round, paid by the device's own copy: the slot of the send buffer back.
-/
module

public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Pipeline.FrameBody
public import Idealize.ShloMosaic.Lib.Rounds
public import Idealize.ShloMosaic.Lib.Ring
public import Idealize.ShloMosaic.Lib.StableHlo
public import Idealize.ShloMosaic.Lib.Tactic
public import Idealize.ShloMosaic.PureOps

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline library's copy and the exchange's, whose duties are named by slots -/

abbrev UU : Type := UR sig nD τ × URounds (GSem nD τ sig) (Fin 8)

local notation "𝕄" => MT nD τ sig Unit (Elt F) ℕ UU ℕ

abbrev EP : Emb (UR sig nD τ) (MT nD τ sig Unit (Elt F) ℕ UU ℕ) := embL
abbrev ER : Emb (URounds (GSem nD τ sig) (Fin 8)) (MT nD τ sig Unit (Elt F) ℕ UU ℕ) := embR

/-! ## Devices around the ring -/

/-- The device `s` places after `c`, and the one `s` places before it. -/
def fwd (c : Dev nD) (s : Fin 8) : Dev nD := ⟨(c.val + s.val) % 8, Nat.mod_lt _ (by decide)⟩
def bwd (c : Dev nD) (s : Fin 8) : Dev nD := ⟨(c.val + 8 - s.val) % 8, Nat.mod_lt _ (by decide)⟩
/-- How many places after `p` device `c` is. -/
def gap (c p : Dev nD) : Fin 8 := ⟨(c.val + 8 - p.val) % 8, Nat.mod_lt _ (by decide)⟩

theorem bwd_fwd (c : Dev nD) (s : Fin 8) : bwd (fwd c s) s = c := by revert c s; decide
theorem fwd_bwd (c : Dev nD) (s : Fin 8) : fwd (bwd c s) s = c := by revert c s; decide
theorem fwd_gap (c p : Dev nD) : fwd p (gap c p) = c := by revert c p; decide
theorem gap_fwd (c : Dev nD) (s : Fin 8) : gap (fwd c s) c = s := by revert c s; decide
theorem gap_bwd (c : Dev nD) (s : Fin 8) : gap c (bwd c s) = s := by revert c s; decide
theorem bwd_gap (c p : Dev nD) : bwd c (gap c p) = p := by revert c p; decide

/-- The devices by their distance before `c`, and by a shift. -/
def gapEquiv (c : Dev nD) : Dev nD ≃ Fin 8 := ⟨gap c, bwd c, bwd_gap c, gap_bwd c⟩
def fwdEquiv (s : Fin 8) : Dev nD ≃ Dev nD := ⟨fun c => fwd c s, fun c => bwd c s, fun c => bwd_fwd c s, fun c => fwd_bwd c s⟩

/-! ## Cells -/

abbrev barS : Sem sig := sig.barrier 0 rfl
abbrev sendS (s : Fin 8) : DmaSem sig := ⟨5 + s.val, by have := s.isLt; show 5 + s.val < 21; omega⟩
abbrev recvS (s : Fin 8) : DmaSem sig := ⟨13 + s.val, by have := s.isLt; show 13 + s.val < 21; omega⟩
abbrev barCell (c : Dev nD) : GSem nD τ sig := ((c : Thread nD τ), .reg barS)
abbrev sendCell (c : Dev nD) (s : Fin 8) : GSem nD τ sig := ((c : Thread nD τ), .dma (sendS s))
abbrev recvCell (c : Dev nD) (s : Fin 8) : GSem nD τ sig := ((c : Thread nD τ), .dma (recvS s))

/-! ## The slots of the two exchange buffers -/

abbrev xM : Memref sig .tc .vmem S512x4096 .fp8e5m2 := Memref.whole cc0_scratch0
abbrev sM : Memref sig .tc .vmem S512x2048 .bf16 := Memref.whole cc0_scratch1
abbrev rM : Memref sig .tc .vmem S512x2048 .bf16 := Memref.whole cc0_scratch2

abbrev slotOff (s : Fin 8) : Fin 2 → ℕ := ![0, s.val * 256]
theorem slot_inb (s : Fin 8) : ∀ a, slotOff s a + S512x256.size a ≤ S512x2048.size a := by revert s; decide
abbrev slotR (s : Fin 8) : Rect S512x2048 := Rect.unit (s := S512x2048) (slotOff s) S512x256.size (slot_inb s)
abbrev sSlot (s : Fin 8) : Memref sig .tc .vmem S512x256 .bf16 := sM.slice (slotR s) (fun _ => rfl)
abbrev rSlot (s : Fin 8) : Memref sig .tc .vmem S512x256 .bf16 := rM.slice (slotR s) (fun _ => rfl)

/-- Device `c`'s slot `s` of the send buffer and of the receive buffer, at contents `f`. -/
abbrev sPts (c : Dev nD) (s : Fin 8) (f : Buf (Elt F) ((sSlot s).view.loc (c : Thread nD τ))) : sProp 𝕄 :=
  (sSlot s).view.loc (c : Thread nD τ) ↦[(sSlot s).view.set]{fullShare} f
abbrev rPts (c : Dev nD) (s : Fin 8) (f : Buf (Elt F) ((rSlot s).view.loc (c : Thread nD τ))) : sProp 𝕄 :=
  (rSlot s).view.loc (c : Thread nD τ) ↦[(rSlot s).view.set]{fullShare} f
abbrev sAny (c : Dev nD) (s : Fin 8) : sProp 𝕄 := iprop(∃ f, sPts (F := F) c s f)
abbrev rAny (c : Dev nD) (s : Fin 8) : sProp 𝕄 := iprop(∃ f, rPts (F := F) c s f)

/-- The units a copy of one slot pays. -/
def N : ℕ := (rSlot 1).view.dmaCredit
theorem N_pos : 0 < N := View.dmaCredit_pos _ (by decide)
theorem credit_r (s : Fin 8) : (rSlot s).view.dmaCredit = N := rfl
theorem credit_s (s : Fin 8) : (sSlot s).view.dmaCredit = N := rfl

/-! ## The schedule -/

variable (y : Dev nD → Dev nD → Vec F S512x256 .bf16)

/-- Device `c`'s slot `s` of the receive buffer, free to be written, its receive cell open. -/
def piece (c : Dev nD) (s : Fin 8) : sProp 𝕄 :=
  if s = 0 then iprop(emp) else iprop(rAny (F := F) c s ∗ reached ER (recvCell c s) 0)
/-- The slot back, holding the block device `c - s` computed for device `c`. -/
def recvPay (c : Dev nD) (s : Fin 8) : sProp 𝕄 :=
  iprop(∃ f, ⌜(rSlot s).view.read (Elt F) f = y (bwd c s) c⌝ ∗ rPts (F := F) c s f)
def sendPay (c : Dev nD) (s : Fin 8) : sProp 𝕄 := sAny (F := F) c s

/-- The slot a DMA semaphore of either array belongs to. -/
def slotOf (q : ℕ) : Fin 8 := ⟨(q - 5) % 8, Nat.mod_lt _ (by decide)⟩
theorem slotOf_send (s : Fin 8) : slotOf (5 + s.val) = s := by revert s; decide
theorem slotOf_recv (s : Fin 8) : slotOf (13 + s.val) = s := by revert s; decide

def exRd : Rounds.Schedule (GSem nD τ sig) (Fin 8) 𝕄 where
  duties g r := if r = 0 ∧ g.1.2 = .tc then (match g.2 with
    | .reg _ => Finset.univ
    | .dma q => if 5 ≤ q.val ∧ slotOf q.val ≠ 0 then {0} else ∅) else ∅
  unitless _ := False
  amount g _ _ := match g.2 with
    | .reg _ => 1
    | .dma _ => N
  payload g _ d := match g.2 with
    | .reg _ => piece (fwd g.1.1 d) d
    | .dma q => if q.val < 13 then sendPay g.1.1 (slotOf q.val) else recvPay y g.1.1 (slotOf q.val)
  amount_pos g _ _ _ := by
    cases g.2
    · exact Nat.one_pos
    · exact N_pos

instance exRd_payload_storable (g : GSem nD τ sig) (r : ℕ) (d : Fin 8) :
    BI.Storable (upEmb : UEmb _ 𝕄) ((exRd (F := F) y).payload g r d) := by
  show BI.Storable upEmb (match g.2 with
    | .reg _ => piece (F := F) (fwd g.1.1 d) d
    | .dma q => if q.val < 13 then sendPay g.1.1 (slotOf q.val) else recvPay y g.1.1 (slotOf q.val))
  unfold piece recvPay sendPay
  cases g.2 <;> dsimp only <;> split <;> infer_instance

section Sched

variable (c : Dev nD)

theorem duties_bar : (exRd (F := F) y).duties (barCell c) 0 = Finset.univ := by dsimp only [exRd]; exact if_pos ⟨rfl, rfl⟩
theorem duties_send (s : Fin 8) (hs : s ≠ 0) : (exRd (F := F) y).duties (sendCell c s) 0 = {0} := by
  dsimp only [exRd]; rw [if_pos ⟨rfl, rfl⟩, slotOf_send, if_pos ⟨by omega, hs⟩]
theorem duties_recv (s : Fin 8) (hs : s ≠ 0) : (exRd (F := F) y).duties (recvCell c s) 0 = {0} := by
  dsimp only [exRd]; rw [if_pos ⟨rfl, rfl⟩, slotOf_recv, if_pos ⟨by omega, hs⟩]
theorem duties_send0 (r : ℕ) : (exRd (F := F) y).duties (sendCell c 0) r = ∅ := by
  dsimp only [exRd]; rw [slotOf_send, if_neg (fun h : _ ∧ (0 : Fin 8) ≠ 0 => h.2 rfl), ite_self]
theorem duties_recv0 (r : ℕ) : (exRd (F := F) y).duties (recvCell c 0) r = ∅ := by
  dsimp only [exRd]; rw [slotOf_recv, if_neg (fun h : _ ∧ (0 : Fin 8) ≠ 0 => h.2 rfl), ite_self]
theorem duties_later (g : GSem nD τ sig) : ∀ r, 1 ≤ r → (exRd (F := F) y).duties g r = ∅ :=
  fun r hr => by dsimp only [exRd]; rw [if_neg (fun h => by omega)]

theorem amount_bar (d : Fin 8) : (exRd (F := F) y).amount (barCell c) 0 d = 1 := rfl
theorem amount_send (s d : Fin 8) : (exRd (F := F) y).amount (sendCell c s) 0 d = N := rfl
theorem amount_recv (s d : Fin 8) : (exRd (F := F) y).amount (recvCell c s) 0 d = N := rfl

theorem expect_bar : (exRd (F := F) y).expect (barCell c) 0 = 8 := by
  unfold Schedule.expect Schedule.amountOf
  rw [duties_bar, Finset.sum_congr rfl fun d _ => amount_bar y c d]; rfl
theorem expect_send (s : Fin 8) (hs : s ≠ 0) : (exRd (F := F) y).expect (sendCell c s) 0 = N := by
  unfold Schedule.expect Schedule.amountOf; rw [duties_send y c s hs, Finset.sum_singleton, amount_send]
theorem expect_recv (s : Fin 8) (hs : s ≠ 0) : (exRd (F := F) y).expect (recvCell c s) 0 = N := by
  unfold Schedule.expect Schedule.amountOf; rw [duties_recv y c s hs, Finset.sum_singleton, amount_recv]

theorem payload_bar (d : Fin 8) : (exRd (F := F) y).payload (barCell c) 0 d = piece (fwd c d) d := rfl
theorem payload_send (s d : Fin 8) : (exRd (F := F) y).payload (sendCell c s) 0 d = sendPay c s := by
  dsimp only [exRd]; rw [slotOf_send, if_pos (by have := s.isLt; omega)]
theorem payload_recv (s d : Fin 8) : (exRd (F := F) y).payload (recvCell c s) 0 d = recvPay y c s := by
  dsimp only [exRd]; rw [slotOf_recv, if_neg (by omega)]

theorem rest_bar : bigSep ((exRd (F := F) y).duties (barCell c) 0 \ ∅) (fun d => (exRd (F := F) y).payload (barCell c) 0 d)
    = bigSep Finset.univ fun s : Fin 8 => piece (F := F) (fwd c s) s := by
  rw [Finset.sdiff_empty, duties_bar]; rfl
theorem rest_send (s : Fin 8) (hs : s ≠ 0) :
    bigSep ((exRd (F := F) y).duties (sendCell c s) 0 \ ∅) (fun d => (exRd (F := F) y).payload (sendCell c s) 0 d) = sendPay (F := F) c s := by
  rw [Finset.sdiff_empty, duties_send y c s hs, bigSep_singleton, payload_send]
theorem rest_recv (s : Fin 8) (hs : s ≠ 0) :
    bigSep ((exRd (F := F) y).duties (recvCell c s) 0 \ ∅) (fun d => (exRd (F := F) y).payload (recvCell c s) 0 d) = recvPay y c s := by
  rw [Finset.sdiff_empty, duties_recv y c s hs, bigSep_singleton, payload_recv]

end Sched

/-! ## What each device owes; the levels -/

/-- The receive credits of the copies of slots above `n`, which device `c` has not issued yet. -/
def recvOwed (c : Dev nD) (n : ℕ) : CellTallies nD τ sig Unit :=
  ∑ s ∈ Finset.univ.filter (fun s : Fin 8 => n < s.val), tallyAt (recvCell (fwd c s) s) () N

theorem recvOwed_step (c : Dev nD) (s : Fin 8) (n : ℕ) (hs : s.val = n + 1) :
    recvOwed c n = recvOwed c (n + 1) + tallyAt (recvCell (fwd c s) s) () N := by
  unfold recvOwed
  rw [show Finset.univ.filter (fun t : Fin 8 => n < t.val) = insert s (Finset.univ.filter fun t : Fin 8 => n + 1 < t.val) from by
      ext t; simp only [Finset.mem_filter, Finset.mem_univ, true_and, Finset.mem_insert, Fin.ext_iff]; omega,
    Finset.sum_insert (by simp only [Finset.mem_filter, Finset.mem_univ, true_and]; omega), add_comm]

theorem recvOwed_last (c : Dev nD) : recvOwed c 7 = 0 := by
  unfold recvOwed
  rw [Finset.filter_false_of_mem (fun t _ => by have := t.isLt; omega), Finset.sum_empty]

theorem recvOwed_pos {c : Dev nD} {n : ℕ} {g : GSem nD τ sig} {u : Unit} (h : 0 < recvOwed c n g u) :
    ∃ s : Fin 8, n < s.val ∧ g = recvCell (fwd c s) s := by
  unfold recvOwed at h
  rw [Finset.sum_apply, Finsupp.finset_sum_apply] at h
  obtain ⟨s, hs, h⟩ := Finset.exists_ne_zero_of_sum_ne_zero (Nat.ne_of_gt h)
  rw [tallyAt_apply] at h
  refine ⟨s, (Finset.mem_filter.mp hs).2, ?_⟩
  by_contra hg
  exact h (if_neg fun hh => hg hh.1)

/-- At launch device `c` owes one unit to every device's barrier cell (its signals, in their order the last summand first) and
    the seven receive credits. -/
def O₀ (c : Dev nD) : CellTallies nD τ sig Unit :=
  recvOwed c 0 + tallyAt (barCell 7) () 1 + tallyAt (barCell 6) () 1 + tallyAt (barCell 5) () 1 + tallyAt (barCell 4) () 1
    + tallyAt (barCell 3) () 1 + tallyAt (barCell 2) () 1 + tallyAt (barCell 1) () 1 + tallyAt (barCell 0) () 1

def L (g : GSem nD τ sig) : Finset Unit := if g.1.2 = .tc then {()} else ∅
/-- Barrier cells at 1, receive cells at 2, the rest (staging and send cells) at 0. -/
def lv (g : GSem nD τ sig) (_ : Unit) : ℕ := match g.2 with
  | .reg _ => 1
  | .dma q => if 13 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (s : Fin 8) (u : Unit) : lv (recvCell c s) u = 2 := by
  dsimp only [lv]; exact if_pos (by omega)

theorem O₀_pos {c : Dev nD} {g : GSem nD τ sig} {u : Unit} (h : 0 < O₀ c g u) :
    (∃ s : Fin 8, g = recvCell (fwd c s) s) ∨ ∃ p : Dev nD, g = barCell p := by
  unfold O₀ at h
  simp only [Pi.add_apply, Finsupp.add_apply] at h
  by_cases hb : ∃ p : Dev nD, g = barCell p
  · exact .inr hb
  · refine .inl ?_
    have h0 : ∀ p : Dev nD, (tallyAt (barCell p) () 1 : CellTallies nD τ sig Unit) g u = 0 := fun p => by
      rw [tallyAt_apply]; exact if_neg fun hh => hb ⟨p, hh.1⟩
    simp only [h0, add_zero] at h
    obtain ⟨s, -, hs⟩ := recvOwed_pos h
    exact ⟨s, hs⟩

theorem mayWait_bar (c : Dev nD) :
    (levAts L lv : sProp 𝕄) ⊢ MayWait (c : Thread nD τ) (.reg barS) () (recvOwed c 0) :=
  MayOwe.of_cut (L := L) (lev := lv) 1 (fun p hp => by rw [Finset.mem_singleton.mp hp, L_tc]; exact Finset.mem_singleton_self _)
    (fun g u hg => by
      obtain ⟨s, -, rfl⟩ := recvOwed_pos hg
      rw [L_tc]; exact Finset.mem_singleton_self _)
    (fun p hp => by rw [Finset.mem_singleton.mp hp]; exact le_of_eq (lv_bar c ()))
    (fun g u hg => by
      obtain ⟨s, -, rfl⟩ := recvOwed_pos hg
      rw [lv_recv]; decide)

/-! ## Ghost state -/

/-- The cells: every device's barrier cell, and the sixteen cells of its two semaphore arrays. -/
abbrev osem0 : Fin 8 × Bool → SemLoc sig := fun k => if k.2 then .dma (recvS k.1) else .dma (sendS k.1)
theorem osem0_inj : Function.Injective osem0 := by decide
theorem osem0_ne_bar : ∀ k, osem0 k ≠ .reg barS := by decide

def barEmb : Dev nD ↪ GSem nD τ sig := ⟨fun c => barCell c, fun _ _ h => congrArg (fun g : GSem nD τ sig => g.1.1) h⟩
def scEmb : Dev nD × (Fin 8 × Bool) ↪ GSem nD τ sig :=
  ⟨fun ck => ((ck.1 : Thread nD τ), osem0 ck.2), fun _ _ h =>
    Prod.ext (congrArg (fun g : GSem nD τ sig => g.1.1) h) (osem0_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem0_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem send_mem (c : Dev nD) (s : Fin 8) : sendCell c s ∈ (barCells ∪ scCells : Finset (GSem nD τ sig)) :=
  Finset.mem_union_right _ (Finset.mem_map_of_mem scEmb (Finset.mem_univ (c, (s, false))))
theorem recv_mem (c : Dev nD) (s : Fin 8) : recvCell c s ∈ (barCells ∪ scCells : Finset (GSem nD τ sig)) :=
  Finset.mem_union_right _ (Finset.mem_map_of_mem scEmb (Finset.mem_univ (c, (s, true))))

/-- What every device may consult: all invariants, at the names `K` the launch chose; round 0 of every barrier cell reached. -/
def records (K : GSem nD τ sig → ℕ) : sProp 𝕄 :=
  iprop((bigSep (barCells ∪ scCells) fun g => cellInv ER (exRd y) (K g) g) ∗ bigSep barCells fun g => reached ER g 0)

instance records_persistent (K : GSem nD τ sig → ℕ) : BI.Persistent (records y K) := by unfold records; infer_instance

theorem inv_at (K : GSem nD τ sig → ℕ) {g : GSem nD τ sig} (hg : g ∈ (barCells ∪ scCells : Finset (GSem nD τ sig))) :
    records y K ⊢ cellInv ER (exRd y) (K g) g := by
  unfold records
  iintro ⟨H, -⟩
  iapply (show (bigSep (barCells ∪ scCells) fun g => (cellInv ER (exRd y) (K g) g : sProp 𝕄)) ⊢ cellInv ER (exRd y) (K g) g from
    bigSep_elim hg)
  iexact H
theorem reached_at (K : GSem nD τ sig → ℕ) (c : Dev nD) : records y K ⊢ reached ER (barCell c) 0 := by
  unfold records
  iintro ⟨-, H⟩
  iapply (show (bigSep barCells fun g => (reached ER g 0 : sProp 𝕄)) ⊢ reached ER (barCell c) 0 from
    bigSep_elim (Finset.mem_map_of_mem barEmb (Finset.mem_univ c)))
  iexact H

/-- A slot the device has yet to write and copy: both ends of the copy, and what it pays with. -/
def toSend (c : Dev nD) (s : Fin 8) : sProp 𝕄 :=
  iprop(sAny (F := F) c s ∗ rAny (F := F) (fwd c s) s ∗ reached ER (recvCell (fwd c s) s) 0 ∗ reached ER (sendCell c s) 0
    ∗ dutyTok ER (recvCell (fwd c s) s) 0 0 ∗ dutyTok ER (sendCell c s) 0 0)
/-- Slot `s` of device `c` after the first `d` copies. -/
def slotSt (c : Dev nD) (d : ℕ) (s : Fin 8) : sProp 𝕄 :=
  if s = 0 then iprop(sAny (F := F) c 0 ∗ rAny (F := F) c 0)
  else if s.val ≤ d then cred (tallyAt (sendCell c s) () N) else toSend c s
/-- What the waits on a slot's two cells take, held from the launch on. -/
def waitSt (c : Dev nD) (s : Fin 8) : sProp 𝕄 :=
  iprop(atPos ER (sendCell c s) 0 ∅ 0 ∗ atPos ER (recvCell c s) 0 ∅ 0
    ∗ if s = 0 then iprop(emp) else cred (tallyAt (recvCell c s) () N))
/-- What a slot's copy takes beside the destination, held from the launch on. -/
def preSt (c : Dev nD) (s : Fin 8) : sProp 𝕄 :=
  if s = 0 then iprop(sAny (F := F) c 0 ∗ rAny (F := F) c 0)
  else iprop(sAny (F := F) c s ∗ reached ER (sendCell c s) 0
    ∗ dutyTok ER (recvCell (fwd c s) s) 0 0 ∗ dutyTok ER (sendCell c s) 0 0)
/-- The barrier, before it. -/
def barSt (c : Dev nD) : sProp 𝕄 :=
  iprop(atPos ER (barCell c) 0 ∅ 0 ∗ cred (tallyAt (barCell c) () 8)
    ∗ bigSep Finset.univ fun p : Dev nD => dutyTok ER (barCell p) 0 (gap c p))

theorem slotSt_start (c : Dev nD) (s : Fin 8) : iprop(preSt (F := F) c s ∗ piece (F := F) (fwd c s) s) ⊢ slotSt (F := F) c 0 s := by
  unfold preSt piece slotSt
  by_cases hs : s = 0
  · rw [if_pos hs, if_pos hs, if_pos hs]
    iintro ⟨H, -⟩; iexact H
  · rw [if_neg hs, if_neg hs, if_neg hs, if_neg (fun h => hs (Fin.ext (Nat.le_zero.mp h)))]
    unfold toSend
    iintro ⟨⟨H1, H2, H3, H4⟩, H5, H6⟩
    isplitl [H1]; · iexact H1
    isplitl [H5]; · iexact H5
    isplitl [H6]; · iexact H6
    isplitl [H2]; · iexact H2
    isplitl [H3] <;> iassumption

/-- Every slot but the next one is as before after one more copy. -/
theorem slotSt_other (c : Dev nD) (d : ℕ) (s s' : Fin 8) (hs : s.val = d + 1) (h : s' ≠ s) :
    slotSt (F := F) c d s' = slotSt (F := F) c (d + 1) s' := by
  unfold slotSt
  by_cases h0 : s' = 0
  · rw [if_pos h0, if_pos h0]
  · rw [if_neg h0, if_neg h0]
    have : s'.val ≠ s.val := fun hh => h (Fin.ext hh)
    by_cases h1 : s'.val ≤ d
    · rw [if_pos h1, if_pos (by omega)]
    · rw [if_neg h1, if_neg (by omega)]

theorem slotSt_next (c : Dev nD) (d : ℕ) (s : Fin 8) (hs : s.val = d + 1) : slotSt (F := F) c d s = toSend c s := by
  unfold slotSt
  rw [if_neg (fun h => by rw [h] at hs; exact absurd hs (by simp)), if_neg (by omega)]
theorem slotSt_done (c : Dev nD) (d : ℕ) (s : Fin 8) (hs : s ≠ 0) (h : s.val ≤ d) :
    slotSt (F := F) c d s = cred (tallyAt (sendCell c s) () N) := by
  unfold slotSt; rw [if_neg hs, if_pos h]

/-- A cell with nothing left to come is closed: its counter back in hand at zero. -/
theorem close (κ : ℕ) (g : GSem nD τ sig) :
    iprop(cellInv ER (exRd y) κ g ∗ atPos ER g (0 + 1) ∅ 0) ⊢ (|={Set.univ}=> semVal g 0 : sProp 𝕄) :=
  Rounds.cell_close ER (exRd y) (Set.mem_univ κ) id (duties_later y g)
theorem close0 (κ : ℕ) (g : GSem nD τ sig) (h : ∀ r, (exRd (F := F) y).duties g r = ∅) :
    iprop(cellInv ER (exRd y) κ g ∗ atPos ER g 0 ∅ 0) ⊢ (|={Set.univ}=> semVal g 0 : sProp 𝕄) :=
  Rounds.cell_close ER (exRd y) (Set.mem_univ κ) id (fun r _ => h r)

abbrev 𝒱₀ : Variants := Variants.none

end Cert.KernelIdeal.Exchange

end
-- ==== Proof.Body.lean ====
/-
  The kernel's body, step by step, at a symbolic device: the barrier before the first point, the send of one slot, and the
  receipt of one slot at the last point.
-/
module

public import proofs.«01_k».proof.Proof.Protocol

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Slots -/

theorem mem_slotR (s : Fin 8) (j : S512x2048.Idx) : j ∈ (slotR s).set ↔ s.val * 256 ≤ (j 1).val ∧ (j 1).val < s.val * 256 + 256 := by
  rw [Rect.mem_set_unit, Fin.forall_fin_two]
  have h0 : (j 0).val < 512 := (j 0).isLt
  constructor
  · rintro ⟨-, h⟩; exact h
  · intro h; exact ⟨⟨Nat.zero_le _, by show (j 0).val < 0 + 512; omega⟩, h⟩

theorem slot_disjoint : ∀ s s' : Fin 8, s ≠ s' → Disjoint (slotR s).set (slotR s').set := fun s s' hne => by
  rw [Finset.disjoint_left]
  intro j h h'
  rw [mem_slotR] at h h'
  exact hne (Fin.ext (by omega))

theorem slot_cover : Finset.univ.biUnion (fun s : Fin 8 => (slotR s).set) = Finset.univ := by
  ext j
  simp only [Finset.mem_biUnion, Finset.mem_univ, true_and, iff_true]
  have h : (j 1).val < 2048 := (j 1).isLt
  exact ⟨⟨(j 1).val / 256, by omega⟩, (mem_slotR _ _).mpr ⟨by show (j 1).val / 256 * 256 ≤ _; omega, by show _ < (j 1).val / 256 * 256 + 256; omega⟩⟩

theorem sSet_eq (s : Fin 8) : (sSlot s).view.set = (slotR s).set := View.set_slice_whole cc0_scratch1 (slotR s)
theorem rSet_eq (s : Fin 8) : (rSlot s).view.set = (slotR s).set := View.set_slice_whole cc0_scratch2 (slotR s)

/-- Each exchange buffer held whole is its eight slots held; -/
theorem s_slots (c : Dev nD) (f : Buf (Elt F) ((c : Thread nD τ).loc cc0_scratch1)) :
    ((c : Thread nD τ).loc cc0_scratch1 ↦{fullShare} f) ⊢ (bigSep Finset.univ fun s : Fin 8 => sAny (F := F) c s : sProp 𝕄) := by
  refine (Entails.of_eq (Ring.pointsTo_blocks (ℓ := (c : Thread nD τ).loc cc0_scratch1) (q := fullShare)
    (fun s : Fin 8 => (slotR s).set) slot_disjoint slot_cover f)).trans (BI.bigSep_mono fun s _ => ?_)
  show ((sSlot s).view.loc (c : Thread nD τ) ↦[(slotR s).set]{fullShare} f) ⊢ iprop(∃ f, sPts (F := F) c s f)
  unfold sPts; rw [sSet_eq]
  iintro H; iexists f; iexact H
theorem r_slots (c : Dev nD) (f : Buf (Elt F) ((c : Thread nD τ).loc cc0_scratch2)) :
    ((c : Thread nD τ).loc cc0_scratch2 ↦{fullShare} f) ⊢ (bigSep Finset.univ fun s : Fin 8 => rAny (F := F) c s : sProp 𝕄) := by
  refine (Entails.of_eq (Ring.pointsTo_blocks (ℓ := (c : Thread nD τ).loc cc0_scratch2) (q := fullShare)
    (fun s : Fin 8 => (slotR s).set) slot_disjoint slot_cover f)).trans (BI.bigSep_mono fun s _ => ?_)
  show ((rSlot s).view.loc (c : Thread nD τ) ↦[(slotR s).set]{fullShare} f) ⊢ iprop(∃ f, rPts (F := F) c s f)
  unfold rPts; rw [rSet_eq]
  iintro H; iexists f; iexact H
/-- and back, at some contents. -/
theorem s_join (c : Dev nD) : (bigSep Finset.univ fun s : Fin 8 => sAny (F := F) c s : sProp 𝕄)
    ⊢ iprop(∃ f, (c : Thread nD τ).loc cc0_scratch1 ↦{fullShare} f) := by
  refine BIBase.Entails.trans ?_ (Ring.pointsTo_blocks_join_exists (ℓ := (c : Thread nD τ).loc cc0_scratch1) (q := fullShare)
    (fun s : Fin 8 => (slotR s).set) slot_disjoint slot_cover sM.view.junk)
  refine BI.bigSep_mono fun s _ => ?_
  show iprop(∃ f, sPts (F := F) c s f) ⊢ (iprop(∃ f, (sSlot s).view.loc (c : Thread nD τ) ↦[(slotR s).set]{fullShare} f) : sProp 𝕄)
  unfold sPts; rw [sSet_eq]
theorem r_join (c : Dev nD) : (bigSep Finset.univ fun s : Fin 8 => rAny (F := F) c s : sProp 𝕄)
    ⊢ iprop(∃ f, (c : Thread nD τ).loc cc0_scratch2 ↦{fullShare} f) := by
  refine BIBase.Entails.trans ?_ (Ring.pointsTo_blocks_join_exists (ℓ := (c : Thread nD τ).loc cc0_scratch2) (q := fullShare)
    (fun s : Fin 8 => (slotR s).set) slot_disjoint slot_cover rM.view.junk)
  refine BI.bigSep_mono fun s _ => ?_
  show iprop(∃ f, rPts (F := F) c s f) ⊢ (iprop(∃ f, (rSlot s).view.loc (c : Thread nD τ) ↦[(slotR s).set]{fullShare} f) : sProp 𝕄)
  unfold rPts; rw [rSet_eq]

/-! ## The barrier -/

variable (y : Dev nD → Dev nD → Vec F S512x256 .bf16)

theorem wp_sig (K : GSem nD τ sig → ℕ) (c p : Dev nD) {dst : Dev nD} (hdst : dst = p) {a : ℤ} (ha : a = ((1 : ℕ) : ℤ))
    {O : CellTallies nD τ sig Unit} (Orest : CellTallies nD τ sig Unit) (hO : O = Orest + tallyAt (barCell p) () 1)
    {W : Waits sig Unit} {α : Type} {k : PUnit → Prog (TpuEff nD τ sig (Elt F) Λ₀ .tc) α} {Q : α → sProp 𝕄} :
    iprop(records y K ∗ owes (c : Thread nD τ) O W ∗ dutyTok ER (barCell p) 0 (gap c p) ∗ piece (F := F) c (gap c p))
      ⊢ iprop((owes (c : Thread nD τ) Orest W -∗ wp frame (wpE (defs₀ (F := F)) 𝒱₀ c none) Set.univ (k ⟨⟩) Q)
        -∗ wp frame (wpE (defs₀ (F := F)) 𝒱₀ c none) Set.univ (.op (.semSignal (dst : Thread nD τ) barS a) k) Q) := by
  subst hdst; subst ha
  iintro ⟨#HR, HO, Ht, Hp⟩ Hk
  iapply (Rounds.wp_signal 𝒱₀ ER (exRd y) (c : Thread nD τ) none (dst := (dst : Thread nD τ)) (sem := barS) (r := 0) (d := gap c dst)
      (κ := K (barCell dst)) (by rw [duties_bar]; exact Finset.mem_univ _) (amount_bar y dst (gap c dst)) () Orest hO) $$ [HO Ht Hp]
  · isplitr; · iapply (inv_at y K (bar_mem dst)); iexact HR
    isplitl [HO]; · iexact HO
    isplitl [Ht]; · iexact Ht
    isplitl [Hp]; · rw [payload_bar, fwd_gap]; iexact Hp
    iapply (reached_at y K dst); iexact HR
  iexact Hk

/-- The slots named by the devices they come from, one by one. -/
theorem pieces_by_device (c : Dev nD) (Φ : Fin 8 → sProp 𝕄) :
    bigSep Finset.univ Φ = bigSep Finset.univ fun p : Dev nD => Φ (gap c p) :=
  bigSep_univ_equiv (gapEquiv c) Φ

theorem bigSep_devs (Φ : Dev nD → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [(0 : Dev nD), 1, 2, 3, 4, 5, 6, 7] (by decide) (by decide) Φ

/-- The eight signals and the wait: every slot of the device's receive buffer goes out, and the slots its copies write come in. -/
theorem barrier_run (K : GSem nD τ sig → ℕ) (c : Dev nD) (W : Waits sig Unit) (i : grid0.Coords)
    {arg1 : Memref sig .tc .smem S1 .i32} {harg1 : arg1.IsWhole} {arg2 : Memref sig .tc .vmem S512x4096 .fp8e5m2} {harg2 : arg2.IsWhole}
    {arg3 : Memref sig .tc .vmem S4096x256 .fp8e5m2} {harg3 : arg3.IsWhole} {arg4 : Memref sig .tc .smem S1x1 .f32} {harg4 : arg4.IsWhole}
    {arg5 : Memref sig .tc .vmem S4096x256 .f32} {harg5 : arg5.IsWhole} {arg6 : Memref sig .tc .vmem S512x4096 .fp8e5m2} {harg6 : arg6.IsWhole}
    {arg7 : Memref sig .tc .vmem S512x2048 .bf16} {harg7 : arg7.IsWhole} {arg8 : Memref sig .tc .vmem S512x2048 .bf16} {harg8 : arg8.IsWhole}
    {arg9 arg10 : DmaSems sig S8} (h1 : k0_cond1 i = 1#1) (Q : PUnit → sProp 𝕄) :
    iprop((records y K ∗ levAts L lv ∗ barSt (F := F) c ∗ (bigSep Finset.univ fun s => preSt (F := F) c s)
        ∗ (bigSep Finset.univ fun s => piece (F := F) c s) ∗ owes (c : Thread nD τ) (O₀ c) W)
      ∗ (semVal (barCell c) 0 ∗ (bigSep Finset.univ fun s => slotSt (F := F) c 0 s) ∗ (∃ W, owes (c : Thread nD τ) (recvOwed c 0) W) -∗ Q ⟨⟩))
      ⊢ wp frame (wpE (defs₀ (F := F)) 𝒱₀ c none) Set.univ
          (k0_part1 (F := F) i arg1 harg1 arg2 harg2 arg3 harg3 arg4 harg4 arg5 harg5 arg6 harg6 arg7 harg7 arg8 harg8 arg9 arg10
            (SemArray.scalar (sig.barrier 0 rfl)) h1) Q := by
  rw [k0_part1_eq_skeleton]
  unfold k0_part1_skel semSignalWord semWaitWord barSt
  simp only [Prog.bind_op, Prog.bind_ret]
  rw [pieces_by_device c (fun s => piece (F := F) c s),
    bigSep_devs (fun p => dutyTok ER (barCell p) 0 (gap c p)), bigSep_devs (fun p => piece (F := F) c (gap c p))]
  iintro ⟨⟨#HR, #Hlev, ⟨Hat, Hcr, Ht0, Ht1, Ht2, Ht3, Ht4, Ht5, Ht6, Ht7⟩, Hpre, ⟨Hp0, Hp1, Hp2, Hp3, Hp4, Hp5, Hp6, Hp7⟩, HO⟩, Hk⟩
  iapply (wp_sig y K c 0 rfl rfl _ rfl) $$ [HO Ht0 Hp0]
  · isplitr; · iexact HR
    isplitl [HO]; · iexact HO
    isplitl [Ht0]; · iexact Ht0
    iexact Hp0
  iintro HO
  iapply (wp_sig y K c 1 rfl rfl _ rfl) $$ [HO Ht1 Hp1]
  · isplitr; · iexact HR
    isplitl [HO]; · iexact HO
    isplitl [Ht1]; · iexact Ht1
    iexact Hp1
  iintro HO
  iapply (wp_sig y K c 2 rfl rfl _ rfl) $$ [HO Ht2 Hp2]
  · isplitr; · iexact HR
    isplitl [HO]; · iexact HO
    isplitl [Ht2]; · iexact Ht2
    iexact Hp2
  iintro HO
  iapply (wp_sig y K c 3 rfl rfl _ rfl) $$ [HO Ht3 Hp3]
  · isplitr; · iexact HR
    isplitl [HO]; · iexact HO
    isplitl [Ht3]; · iexact Ht3
    iexact Hp3
  iintro HO
  iapply (wp_sig y K c 4 rfl rfl _ rfl) $$ [HO Ht4 Hp4]
  · isplitr; · iexact HR
    isplitl [HO]; · iexact HO
    isplitl [Ht4]; · iexact Ht4
    iexact Hp4
  iintro HO
  iapply (wp_sig y K c 5 rfl rfl _ rfl) $$ [HO Ht5 Hp5]
  · isplitr; · iexact HR
    isplitl [HO]; · iexact HO
    isplitl [Ht5]; · iexact Ht5
    iexact Hp5
  iintro HO
  iapply (wp_sig y K c 6 rfl rfl _ rfl) $$ [HO Ht6 Hp6]
  · isplitr; · iexact HR
    isplitl [HO]; · iexact HO
    isplitl [Ht6]; · iexact Ht6
    iexact Hp6
  iintro HO
  iapply (wp_sig y K c 7 rfl rfl _ rfl) $$ [HO Ht7 Hp7]
  · isplitr; · iexact HR
    isplitl [HO]; · iexact HO
    isplitl [Ht7]; · iexact Ht7
    iexact Hp7
  iintro HO
  -- wait for the eight devices' units, still owing the seven receive credits
  iapply (Rounds.wp_wait_rest_token 𝒱₀ ER (exRd y) (c : Thread nD τ) none (κ := K (barCell c))
      (wpE_semWait_eq 𝒱₀ (c : Thread nD τ) none Set.univ) (Set.mem_univ _) () (O := recvOwed c 0) (W := W) (R := 0) (m := 0) (T := ∅)
      ((Nat.zero_add 8).trans (expect_bar y c).symm)) $$ [Hcr HO Hat]
  · isplitr; · iapply (inv_at y K (bar_mem c)); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar y c)) $$ Hpay
  simp only [Prog.pure_eq_ret]
  rw [wp_ret]
  imod (close y (K (barCell c)) (barCell c)) $$ [Hat] with Hb
  · isplitr; · iapply (inv_at y K (bar_mem c)); iexact HR
    iexact Hat
  imodintro
  iapply Hk
  isplitl [Hb]; · iexact Hb
  isplitl [Hpre Hp]
  · iapply (show iprop((bigSep Finset.univ fun s => preSt (F := F) c s) ∗ bigSep Finset.univ fun s => piece (F := F) (fwd c s) s)
        ⊢ (bigSep Finset.univ fun s => slotSt (F := F) c 0 s : sProp 𝕄) from
      (Entails.of_eq (bigSep_sep' _ _ _).symm).trans (BI.bigSep_mono fun s _ => slotSt_start c s))
    isplitl [Hpre]; · iexact Hpre
    iexact Hp
  · iexists _; iexact HO

/-! ## Sending one slot -/

/-- The copy of slot `s`: the slot of the send buffer holds the block for the device `s` places on, and the copy leaves it in that
    device's slot. -/
theorem wp_slot_copy (K : GSem nD τ sig → ℕ) (c : Dev nD) (s : Fin 8) (hs : s ≠ 0) (O Orest : CellTallies nD τ sig Unit)
    (hO : O = Orest + tallyAt (recvCell (fwd c s) s) () N) (W : Waits sig Unit)
    (f : Buf (Elt F) ((sSlot s).view.loc (c : Thread nD τ))) (hf : (sSlot s).view.read (Elt F) f = y c (fwd c s))
    {dv : Dev nD} (hdv : dv = fwd c s) {off : Fin 2 → ℕ} (hoff : off = slotOff s)
    {inb inb' : ∀ a, off a + S512x256.size a ≤ S512x2048.size a} {q q' : DmaSem sig} (hq : q = sendS s) (hq' : q' = recvS s)
    {hsrc : (sM.slice (Rect.unit (s := S512x2048) off S512x256.size inb) (fun _ => rfl)).view.WordExact}
    {hsc : (rM.slice (Rect.unit (s := S512x2048) off S512x256.size inb') (fun _ => rfl)).view.ref.isScScratch = false}
    {hdst : (rM.slice (Rect.unit (s := S512x2048) off S512x256.size inb') (fun _ => rfl)).view.WordExact}
    {hsem : DmaTarget.Typed .vmem (.dma q') (.remote (dv : Thread nD τ)
      (rM.slice (Rect.unit (s := S512x2048) off S512x256.size inb') (fun _ => rfl)) (.dma q) hsc)}
    {α : Type} {k : PUnit → Prog (TpuEff nD τ sig (Elt F) Λ₀ .tc) α} {Q : α → sProp 𝕄} :
    iprop(records y K ∗ sPts (F := F) c s f ∗ rAny (F := F) (fwd c s) s ∗ reached ER (recvCell (fwd c s) s) 0 ∗ reached ER (sendCell c s) 0
        ∗ dutyTok ER (recvCell (fwd c s) s) 0 0 ∗ dutyTok ER (sendCell c s) 0 0 ∗ owes (c : Thread nD τ) O W)
      ⊢ iprop((cred (tallyAt (sendCell c s) () N) ∗ owes (c : Thread nD τ) Orest W
            -∗ wp frame (wpE (defs₀ (F := F)) 𝒱₀ c none) Set.univ (k ⟨⟩) Q)
        -∗ wp frame (wpE (defs₀ (F := F)) 𝒱₀ c none) Set.univ
          (.op (.enqueueDma (sM.slice (Rect.unit (s := S512x2048) off S512x256.size inb) (fun _ => rfl))
            (.remote (dv : Thread nD τ) (rM.slice (Rect.unit (s := S512x2048) off S512x256.size inb') (fun _ => rfl)) (.dma q) hsc)
            (.dma q') hsrc hdst hsem) k) Q) := by
  subst hoff hdv hq hq'
  iintro ⟨#HR, Hs, ⟨%g, Hr⟩, #HrR, #HrS, HtR, HtS, HO⟩ Hk
  iapply (Rounds.wp_send_pointsTo 𝒱₀ ER (exRd y) (c : Thread nD τ) none (c' := (fwd c s : Thread nD τ)) (src := sSlot s) (dst := rSlot s)
      (sS := .dma (sendS s)) (sem := .dma (recvS s)) (q := fullShare) (fs := f) (κ₁ := K (sendCell c s)) (κ₂ := K (recvCell (fwd c s) s))
      (r₁ := 0) (r₂ := 0) (d₁ := 0) (d₂ := 0) (fd := g)
      (by rw [duties_send y c s hs]; exact Finset.mem_singleton_self _) (by rw [duties_recv y _ s hs]; exact Finset.mem_singleton_self _)
      () () N rfl (amount_send y c s 0) (amount_recv y (fwd c s) s 0) Orest hO (W := W)
      (by rw [payload_send]; unfold sendPay; iintro H; iexists f; iexact H)
      (by
        rw [payload_recv]; unfold recvPay; rw [bwd_fwd]
        iintro H; iexists ((rSlot s).view.write (Elt F) g ((sSlot s).view.read (Elt F) f) Finset.univ)
        isplitr
        · ipureintro; exact (View.read_write_univ _ _).trans hf
        · iexact H)) $$ [Hs Hr HO HtS HtR]
  · isplitr; · iapply (inv_at y K (send_mem c s)); iexact HR
    isplitr; · iapply (inv_at y K (recv_mem (fwd c s) s)); iexact HR
    isplitl [Hs]; · iexact Hs
    isplitl [Hr]; · iexact Hr
    isplitl [HO]; · iexact HO
    isplitl [HtS]; · iexact HtS
    isplitr; · iexact HrS
    isplitl [HtR]; · iexact HtR
    iexact HrR
  iexact Hk

/-- Point `d`'s block written into slot `d + 1` of the send buffer and copied on. -/
theorem wp_slot_send (K : GSem nD τ sig → ℕ) (c : Dev nD) (d : ℕ) (s : Fin 8) (hs : s.val = d + 1) (W : Waits sig Unit)
    (w : Vec F S512x256 .bf16) (hw : w = y c (fwd c s))
    {dv : Dev nD} (hdv : dv = fwd c s) {off₁ off : Fin 2 → ℕ} (hoff₁ : off₁ = slotOff s) (hoff : off = slotOff s)
    {inb inb' : ∀ a, off a + S512x256.size a ≤ S512x2048.size a}
    {inb₁ inb₂ : ∀ a, off₁ a + S512x256.size a ≤ S512x2048.size a}
    {q q' : DmaSem sig} (hq : q = sendS s) (hq' : q' = recvS s)
    {hl : sM.view.LoadsAt (Rect.unit (s := S512x2048) off₁ S512x256.size inb₁).toLoadRect}
    {hx : (sM.access (Rect.unit (s := S512x2048) off₁ S512x256.size inb₂)).Stores Finset.univ}
    {hm : (Finset.univ : Finset (Rect.unit (s := S512x2048) off₁ S512x256.size inb₂).shape.Idx) = Finset.univ
      ∨ ∀ a, (Rect.unit (s := S512x2048) off₁ S512x256.size inb₂).stride a = 1}
    {hsrc : (sM.slice (Rect.unit (s := S512x2048) off S512x256.size inb) (fun _ => rfl)).view.WordExact}
    {hsc : (rM.slice (Rect.unit (s := S512x2048) off S512x256.size inb') (fun _ => rfl)).view.ref.isScScratch = false}
    {hdst : (rM.slice (Rect.unit (s := S512x2048) off S512x256.size inb') (fun _ => rfl)).view.WordExact}
    {hsem : DmaTarget.Typed .vmem (.dma q') (.remote (dv : Thread nD τ)
      (rM.slice (Rect.unit (s := S512x2048) off S512x256.size inb') (fun _ => rfl)) (.dma q) hsc)}
    {α : Type} {k : PUnit → Prog (TpuEff nD τ sig (Elt F) Λ₀ .tc) α} {Q : α → sProp 𝕄} :
    iprop(records y K ∗ (bigSep Finset.univ fun s => slotSt (F := F) c d s) ∗ owes (c : Thread nD τ) (recvOwed c d) W)
      ⊢ iprop(((bigSep Finset.univ fun s => slotSt (F := F) c (d + 1) s) ∗ owes (c : Thread nD τ) (recvOwed c (d + 1)) W
            -∗ wp frame (wpE (defs₀ (F := F)) 𝒱₀ c none) Set.univ (k ⟨⟩) Q)
        -∗ wp frame (wpE (defs₀ (F := F)) 𝒱₀ c none) Set.univ
          (.op (.load sM (Rect.unit (s := S512x2048) off₁ S512x256.size inb₁).toLoadRect hl) fun _ =>
            .op (.store sM (Rect.unit (s := S512x2048) off₁ S512x256.size inb₂) w Finset.univ hx hm) fun _ =>
            .op (.enqueueDma (sM.slice (Rect.unit (s := S512x2048) off S512x256.size inb) (fun _ => rfl))
              (.remote (dv : Thread nD τ) (rM.slice (Rect.unit (s := S512x2048) off S512x256.size inb') (fun _ => rfl)) (.dma q) hsc)
              (.dma q') hsrc hdst hsem) k) Q) := by
  subst hoff₁
  have hs0 : s ≠ 0 := fun h => by rw [h] at hs; exact absurd hs (by simp)
  have hsplit : ∀ e, (bigSep Finset.univ fun t => slotSt (F := F) c e t)
      = iprop(slotSt (F := F) c e s ∗ bigSep (Finset.univ.erase s) fun t => slotSt (F := F) c e t) := fun e =>
    (congrArg (fun S => bigSep S fun t => slotSt (F := F) c e t) (Finset.insert_erase (Finset.mem_univ s)).symm).trans
      (bigSep_insert (Finset.notMem_erase s _))
  have hrest : (bigSep (Finset.univ.erase s) fun t => slotSt (F := F) c d t) = bigSep (Finset.univ.erase s) fun t => slotSt (F := F) c (d + 1) t :=
    bigSep_congr fun t ht => slotSt_other c d s t hs (Finset.ne_of_mem_erase ht)
  rw [hsplit d, hsplit (d + 1), slotSt_next c d s hs, slotSt_done c (d + 1) s hs0 (le_of_eq hs), hrest]
  unfold toSend
  iintro ⟨#HR, ⟨⟨⟨%f, Hs⟩, Hr, HrR, HrS, HtR, HtS⟩, Hrest⟩, HO⟩ Hk
  iapply (wp_load_rect 𝒱₀ (c : Thread nD τ) none Set.univ (m := sM) (r := slotR s) (S := (sSlot s).view.set) (q := fullShare) (f := f)
    (Finset.Subset.refl _)) $$ [Hs]
  · iexact Hs
  iintro Hs
  iapply (wp_store 𝒱₀ (c : Thread nD τ) none Set.univ (m := sM) (r := slotR s) (S := (sSlot s).view.set) (f := f)
    (Finset.Subset.refl _)) $$ [Hs]
  · iexact Hs
  iintro Hs
  iapply (wp_slot_copy y K c s hs0 (recvOwed c d) (recvOwed c (d + 1)) (recvOwed_step c s d hs) W _
    ((View.read_write_univ (v := (sSlot s).view) f w).trans hw) hdv hoff hq hq') $$ [Hs Hr HrR HrS HtR HtS HO]
  · isplitr; · iexact HR
    isplitl [Hs]; · iexact Hs
    isplitl [Hr]; · iexact Hr
    isplitl [HrR]; · iexact HrR
    isplitl [HrS]; · iexact HrS
    isplitl [HtR]; · iexact HtR
    isplitl [HtS]; · iexact HtS
    iexact HO
  iintro ⟨Hc, HO⟩
  iapply Hk
  isplitl [Hc Hrest]
  · isplitl [Hc]; · iexact Hc
    iexact Hrest
  iexact HO

end Cert.KernelIdeal.Exchange

end
-- ==== Proof.Recv.lean ====
/-
  The last point's steps: the device's own block stored, and one slot received, widened and stored.
-/
module

public import proofs.«01_k».proof.Proof.Body
public import Idealize.ShloMosaic.Lib.MemrefSat

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The result buffer, block of rows by block of rows -/

/-- The device whose rows an index of the result lies in, and its place in that device's block. -/
def rowDev (j : S4096x256.Idx) : Dev nD := ⟨(j 0).val / 512, by have : (j 0).val < 4096 := (j 0).isLt; show _ < 8; omega⟩
def inBlk (j : S4096x256.Idx) : S512x256.Idx :=
  Fin.cons ⟨(j 0).val % 512, Nat.mod_lt _ (by decide)⟩ (Fin.cons ⟨(j 1).val, (j 1).isLt⟩ finZeroElim)

theorem inBlk_0 (j : S4096x256.Idx) : (inBlk j 0).val = (j 0).val % 512 := rfl
theorem inBlk_1 (j : S4096x256.Idx) : (inBlk j 1).val = (j 1).val := rfl

abbrev rowOff (p : Dev nD) : Fin 2 → ℕ := ![p.val * 512, 0]
theorem row_inb (p : Dev nD) : ∀ a, rowOff p a + S512x256.size a ≤ S4096x256.size a := by revert p; decide
abbrev rowR (p : Dev nD) : Rect S4096x256 := Rect.unit (s := S4096x256) (rowOff p) S512x256.size (row_inb p)

theorem mem_rowR (p : Dev nD) (j : S4096x256.Idx) : j ∈ (rowR p).set ↔ rowDev j = p := by
  have h0 : (j 0).val < 4096 := (j 0).isLt
  have h1 : (j 1).val < 256 := (j 1).isLt
  rw [Rect.mem_set_unit, Fin.forall_fin_two, Fin.ext_iff]
  show ((p.val * 512 ≤ (j 0).val ∧ (j 0).val < p.val * 512 + 512) ∧ (0 ≤ (j 1).val ∧ (j 1).val < 0 + 256)) ↔ (j 0).val / 512 = p.val
  omega

theorem rowR_emb (j : S4096x256.Idx) : (rowR (rowDev j)).emb (inBlk j) = j := by
  funext a
  revert a
  rw [Fin.forall_fin_two]
  constructor
  · apply Fin.ext; rw [Rect.emb_apply]; show (j 0).val / 512 * 512 + 1 * ((j 0).val % 512) = (j 0).val; omega
  · apply Fin.ext; rw [Rect.emb_apply]; show 0 + 1 * (j 1).val = (j 1).val; omega

/-- The blocks of the devices less than `n` places before `c` are in: `res s` is the block of the device `s` places before. -/
def outOk (c : Dev nD) (res : Fin 8 → Vec F S512x256 .f32) (n : ℕ) (X : S4096x256.Idx → Elt F .f32) : Prop :=
  ∀ j, (gap c (rowDev j)).val < n → X j = res (gap c (rowDev j)) (inBlk j)

theorem outOk_zero (c : Dev nD) (res : Fin 8 → Vec F S512x256 .f32) (X : S4096x256.Idx → Elt F .f32) : outOk c res 0 X :=
  fun _ h => absurd h (Nat.not_lt_zero _)
theorem outOk_full (c : Dev nD) (res : Fin 8 → Vec F S512x256 .f32) (X : S4096x256.Idx → Elt F .f32) (h : outOk c res 8 X) :
    X = fun j => res (gap c (rowDev j)) (inBlk j) :=
  funext fun j => h j (gap c (rowDev j)).isLt

theorem outOk_step (c : Dev nD) (res : Fin 8 → Vec F S512x256 .f32) (M : Memref sig .tc .vmem S4096x256 .f32)
    (f : M.view.ty.Contents (Elt F)) (s : Fin 8) (w : Vec F S512x256 .f32) (hw : w = res s)
    (h : outOk c res s.val (M.view.read (Elt F) f)) :
    outOk c res (s.val + 1) (M.view.read (Elt F) ((M.access (rowR (bwd c s))).write (Elt F) f w Finset.univ)) := by
  subst hw
  intro j hj
  by_cases hg : gap c (rowDev j) = s
  · subst hg
    rw [bwd_gap]
    have he := View.read_slice_write_emb (v := M.view) (rowR (rowDev j)) f (res (gap c (rowDev j)))
      (M := Finset.univ) (x := inBlk j) (Finset.mem_univ _)
    rw [rowR_emb] at he
    exact he
  · have hne : j ∉ Finset.univ.map (rowR (bwd c s)).emb := fun hm => by
      rw [Rect.map_emb_univ, mem_rowR] at hm
      exact hg (by rw [hm, gap_bwd])
    refine (View.read_slice_write_of_not_mem (v := M.view) (rowR (bwd c s)) f (res s) Finset.univ hne).trans (h j ?_)
    have : (gap c (rowDev j)).val ≠ s.val := fun hh => hg (Fin.ext hh)
    omega

/-- The load (unused) and the store of one block of rows. -/
theorem wp_row_store (c : Dev nD) (res : Fin 8 → Vec F S512x256 .f32) (M : Memref sig .tc .vmem S4096x256 .f32) (s : Fin 8)
    (w : Vec F S512x256 .f32) (hw : w = res s) {off : Fin 2 → ℕ} (hoff : off = rowOff (bwd c s))
    {inb inb' : ∀ a, off a + S512x256.size a ≤ S4096x256.size a}
    {hl : M.view.LoadsAt (Rect.unit (s := S4096x256) off S512x256.size inb).toLoadRect}
    {hx : (M.access (Rect.unit (s := S4096x256) off S512x256.size inb')).Stores Finset.univ}
    {hm : (Finset.univ : Finset (Rect.unit (s := S4096x256) off S512x256.size inb').shape.Idx) = Finset.univ
      ∨ ∀ a, (Rect.unit (s := S4096x256) off S512x256.size inb').stride a = 1}
    {α : Type} {k : PUnit → Prog (TpuEff nD τ sig (Elt F) Λ₀ .tc) α} {Q : α → sProp 𝕄} :
    (ownsSat (c : Thread nD τ) M fullShare (outOk c res s.val) : sProp 𝕄)
      ⊢ iprop((ownsSat (c : Thread nD τ) M fullShare (outOk c res (s.val + 1))
            -∗ wp frame (wpE (defs₀ (F := F)) 𝒱₀ c none) Set.univ (k ⟨⟩) Q)
        -∗ wp frame (wpE (defs₀ (F := F)) 𝒱₀ c none) Set.univ
          (.op (.load M (Rect.unit (s := S4096x256) off S512x256.size inb).toLoadRect hl) fun _ =>
            .op (.store M (Rect.unit (s := S4096x256) off S512x256.size inb') w Finset.univ hx hm) k) Q) := by
  subst hoff
  unfold ownsSat
  iintro ⟨%f, %hf, H⟩ Hk
  iapply (wp_load_rect 𝒱₀ (c : Thread nD τ) none Set.univ (m := M) (r := rowR (bwd c s)) (S := M.view.set) (q := fullShare) (f := f)
    (View.set_slice_subset M.view _)) $$ [H]
  · iexact H
  iintro H
  iapply (wp_store 𝒱₀ (c : Thread nD τ) none Set.univ (m := M) (r := rowR (bwd c s)) (S := M.view.set) (f := f)
    (View.set_slice_subset M.view _)) $$ [H]
  · iexact H
  iintro H
  iapply Hk
  iexists _
  isplitr
  rotate_left
  · iexact H
  · ipureintro; exact outOk_step c res M f s w hw hf

/-! ## Receiving one slot -/

/-- Slot `s` of the receive buffer awaited, widened and stored at the rows of the device it came from; then the own copy of slot `s`
    awaited. Both cells are closed. -/
theorem wp_slot_recv (y : Dev nD → Dev nD → Vec F S512x256 .bf16) (K : GSem nD τ sig → ℕ) (c : Dev nD) (s : Fin 8) (hs : s ≠ 0)
    (res : Fin 8 → Vec F S512x256 .f32)
    (pay : Vec F S512x256 .bf16 → Vec F S512x256 .f32) (hpay : pay (y (bwd c s) c) = res s) (W : Waits sig Unit)
    (M : Memref sig .tc .vmem S4096x256 .f32)
    {off : Fin 2 → ℕ} (hoff : off = slotOff s) {row : Fin 2 → ℕ} (hrow : row = rowOff (bwd c s))
    {inb₁ inb₂ inb₃ inb₄ inb₅ : ∀ a, off a + S512x256.size a ≤ S512x2048.size a}
    {inb inb' : ∀ a, row a + S512x256.size a ≤ S4096x256.size a}
    {q q' : DmaSem sig} (hq : q = sendS s) (hq' : q' = recvS s)
    {hw₁ : (sM.slice (Rect.unit (s := S512x2048) off S512x256.size inb₁) (fun _ => rfl)).view.WordExact}
    {hw₂ : (rM.slice (Rect.unit (s := S512x2048) off S512x256.size inb₂) (fun _ => rfl)).view.WordExact}
    {hl₀ : rM.view.LoadsAt (Rect.unit (s := S512x2048) off S512x256.size inb₃).toLoadRect}
    {hl : M.view.LoadsAt (Rect.unit (s := S4096x256) row S512x256.size inb).toLoadRect}
    {hx : (M.access (Rect.unit (s := S4096x256) row S512x256.size inb')).Stores Finset.univ}
    {hm : (Finset.univ : Finset (Rect.unit (s := S4096x256) row S512x256.size inb').shape.Idx) = Finset.univ
      ∨ ∀ a, (Rect.unit (s := S4096x256) row S512x256.size inb').stride a = 1}
    {hw₃ : (rM.slice (Rect.unit (s := S512x2048) off S512x256.size inb₄) (fun _ => rfl)).view.WordExact}
    {hw₄ : (sM.slice (Rect.unit (s := S512x2048) off S512x256.size inb₅) (fun _ => rfl)).view.WordExact}
    {α : Type} {k : PUnit → Prog (TpuEff nD τ sig (Elt F) Λ₀ .tc) α} {Q : α → sProp 𝕄} :
    iprop(records y K ∗ waitSt (F := F) c s ∗ slotSt (F := F) c 7 s ∗ ownsSat (c : Thread nD τ) M fullShare (outOk c res s.val)
        ∗ owes (c : Thread nD τ) (0 : CellTallies nD τ sig Unit) W)
      ⊢ iprop((semVal (sendCell c s) 0 ∗ semVal (recvCell c s) 0 ∗ sAny (F := F) c s ∗ rAny (F := F) c s
            ∗ ownsSat (c : Thread nD τ) M fullShare (outOk c res (s.val + 1)) ∗ (∃ W, owes (c : Thread nD τ) (0 : CellTallies nD τ sig Unit) W)
            -∗ wp frame (wpE (defs₀ (F := F)) 𝒱₀ c none) Set.univ (k ⟨⟩) Q)
        -∗ wp frame (wpE (defs₀ (F := F)) 𝒱₀ c none) Set.univ
          (.op (.waitDma2 q' (sM.slice (Rect.unit (s := S512x2048) off S512x256.size inb₁) (fun _ => rfl))
              (rM.slice (Rect.unit (s := S512x2048) off S512x256.size inb₂) (fun _ => rfl)) hw₁ hw₂) fun _ =>
            .op (.load rM (Rect.unit (s := S512x2048) off S512x256.size inb₃).toLoadRect hl₀) fun v =>
            .op (.load M (Rect.unit (s := S4096x256) row S512x256.size inb).toLoadRect hl) fun _ =>
            .op (.store M (Rect.unit (s := S4096x256) row S512x256.size inb') (pay v) Finset.univ hx hm) fun _ =>
            .op (.waitDma2 q (rM.slice (Rect.unit (s := S512x2048) off S512x256.size inb₄) (fun _ => rfl))
              (sM.slice (Rect.unit (s := S512x2048) off S512x256.size inb₅) (fun _ => rfl)) hw₃ hw₄) k) Q) := by
  subst hoff hq hq'
  rw [slotSt_done c 7 s hs (by have := s.isLt; omega)]
  unfold waitSt
  rw [if_neg hs]
  iintro ⟨#HR, ⟨HatS, HatV, HcV⟩, HcS, HM, HO⟩ Hk
  iapply (Rounds.wp_wait_rest_token 𝒱₀ ER (exRd y) (c : Thread nD τ) none (κ := K (recvCell c s))
      (wpE_waitDma2_eq (src := sSlot s) (dst := rSlot s) 𝒱₀ (c : Thread nD τ) none Set.univ) (Set.mem_univ _) () (O := 0) (W := W) (R := 0) (m := 0) (T := ∅)
      ((Nat.zero_add _).trans (expect_recv y c s hs).symm)) $$ [HcV HO HatV]
  · isplitr; · iapply (inv_at y K (recv_mem c s)); iexact HR
    isplitl [HcV]; · iexact HcV
    isplitl [HO]; · iexact HO
    isplitr; · rw [MayWait_zero]; iempintro
    iexact HatV
  iintro ⟨HO, HatV, -, Hpay⟩
  ihave Hp := (Entails.of_eq (rest_recv y c s hs)) $$ Hpay
  unfold recvPay
  icases Hp with ⟨%f, %hf, Hr⟩
  iapply (wp_load_rect 𝒱₀ (c : Thread nD τ) none Set.univ (m := rM) (r := slotR s) (S := (rSlot s).view.set) (q := fullShare) (f := f)
    (Finset.Subset.refl _)) $$ [Hr]
  · iexact Hr
  iintro Hr
  iapply (wp_row_store c res M s (pay ((rSlot s).view.read (Elt F) f)) ((congrArg pay hf).trans hpay) hrow) $$ [HM]
  · iexact HM
  iintro HM
  iapply (Rounds.wp_wait_rest_token 𝒱₀ ER (exRd y) (c : Thread nD τ) none (κ := K (sendCell c s))
      (wpE_waitDma2_eq (src := rSlot s) (dst := sSlot s) 𝒱₀ (c : Thread nD τ) none Set.univ) (Set.mem_univ _) () (O := 0)
      (W := insert (SemLoc.dma (recvS s), ()) W) (R := 0) (m := 0) (T := ∅)
      ((Nat.zero_add _).trans (expect_send y c s hs).symm)) $$ [HcS HO HatS]
  · isplitr; · iapply (inv_at y K (send_mem c s)); iexact HR
    isplitl [HcS]; · iexact HcS
    isplitl [HO]; · iexact HO
    isplitr; · rw [MayWait_zero]; iempintro
    iexact HatS
  iintro ⟨HO, HatS, -, Hpay⟩
  ihave Hs := (Entails.of_eq (rest_send y c s hs)) $$ Hpay
  unfold sendPay
  imod (close y (K (recvCell c s)) (recvCell c s)) $$ [HatV] with Hv0
  · isplitr; · iapply (inv_at y K (recv_mem c s)); iexact HR
    iexact HatV
  imod (close y (K (sendCell c s)) (sendCell c s)) $$ [HatS] with Hs0
  · isplitr; · iapply (inv_at y K (send_mem c s)); iexact HR
    iexact HatS
  iapply Hk
  isplitl [Hs0]; · iexact Hs0
  isplitl [Hv0]; · iexact Hv0
  isplitl [Hs]; · iexact Hs
  isplitl [Hr]; · iexists f; iexact Hr
  isplitl [HM]; · iexact HM
  iexists _; iexact HO

end Cert.KernelIdeal.Exchange

end
-- ==== Proof.Points.lean ====
/-
  The kernel's body at a grid point: the first point (barrier, keep the input block, compute, send), the points between (compute,
  send), the last (compute, store, receive).
-/
module

public import proofs.«01_k».proof.Proof.Recv

@[expose] public section

set_option maxRecDepth 65536

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The body at its buffers -/

abbrev tM : Memref sig .tc .smem S1 .i32 := Memref.whole main_v9

section Text

variable (i : grid0.Coords) (arg2 : Memref sig .tc .vmem S512x4096 .fp8e5m2) (harg2 : arg2.IsWhole)
  (arg3 : Memref sig .tc .vmem S4096x256 .fp8e5m2) (harg3 : arg3.IsWhole) (arg4 : Memref sig .tc .smem S1x1 .f32) (harg4 : arg4.IsWhole)
  (arg5 : Memref sig .tc .vmem S4096x256 .f32) (harg5 : arg5.IsWhole)

abbrev bodyAt : Prog (TpuEff nD τ sig (Elt F) Λ₀ .tc) PUnit :=
  cc0_body (F := F) i tM (Memref.isWhole_whole _) arg2 harg2 arg3 harg3 arg4 harg4 arg5 harg5 xM (Memref.isWhole_whole _)
    sM (Memref.isWhole_whole _) rM (Memref.isWhole_whole _) cc0_scratch3 cc0_scratch4

end Text

/-! ## Loads of whole buffers -/

theorem read_full {sp : Space} {s : Shape} {e : EltTy} (m : Memref sig .tc sp s e) {off : Fin s.rank → ℕ} (hoff : off = fun _ => 0)
    (inb : ∀ a, off a + s.size a ≤ s.size a) (f : m.view.ty.Contents (Elt F)) :
    (m.access (Rect.unit off s.size inb)).read (Elt F) f = m.view.read (Elt F) f := by
  subst hoff
  funext x
  show m.view.read (Elt F) f ((Rect.whole s).emb x) = _
  rw [Rect.emb_whole_apply]

theorem write_full {sp : Space} {s : Shape} {e : EltTy} (m : Memref sig .tc sp s e) {off : Fin s.rank → ℕ} (hoff : off = fun _ => 0)
    (inb : ∀ a, off a + s.size a ≤ s.size a) (f : m.view.ty.Contents (Elt F)) (w : s.Idx → Elt F e) :
    m.view.read (Elt F) ((m.access (Rect.unit off s.size inb)).write (Elt F) f w Finset.univ) = w :=
  (read_full m hoff inb _).symm.trans (View.read_write_univ (v := m.access (Rect.unit off s.size inb)) f w)

theorem wp_load_owned (c : Dev nD) {cs : CoreSpace} {s : Shape} {e : EltTy} (m : Memref sig .tc cs s e) (X : s.Idx → Elt F e)
    {off : Fin s.rank → ℕ} (hoff : off = fun _ => 0) {inb : ∀ a, off a + s.size a ≤ s.size a}
    {hl : m.view.LoadsAt (Rect.unit off s.size inb).toLoadRect}
    {α : Type} {k : (s.Idx → Elt F e) → Prog (TpuEff nD τ sig (Elt F) Λ₀ .tc) α} {Q : α → sProp 𝕄} :
    (owns (c : Thread nD τ) m fullShare X : sProp 𝕄)
      ⊢ iprop((owns (c : Thread nD τ) m fullShare X -∗ wp frame (wpE (defs₀ (F := F)) 𝒱₀ c none) Set.univ (k X) Q)
        -∗ wp frame (wpE (defs₀ (F := F)) 𝒱₀ c none) Set.univ (.op (.load m (Rect.unit off s.size inb).toLoadRect hl) k) Q) := by
  unfold owns
  iintro ⟨%f, %hf, H⟩ Hk
  iapply (wp_load_rect 𝒱₀ (c : Thread nD τ) none Set.univ (m := m) (r := Rect.unit off s.size inb) (S := m.view.set) (q := fullShare) (f := f)
    (View.set_slice_subset m.view _)) $$ [H]
  · iexact H
  iintro H
  rw [read_full m hoff inb f, hf]
  iapply Hk
  iexists f
  isplitr; · ipureintro; exact hf
  iexact H

theorem off00 : (![0, 0] : Fin 2 → ℕ) = fun _ => 0 := by decide

/-- The scalar's one index. -/
def one11 : S1x1.Idx := fun a => ⟨0, by revert a; decide⟩
theorem idx11 (x : S1x1.Idx) : x = one11 := by
  funext a
  revert a
  rw [Fin.forall_fin_two]
  have h0 : (x 0).val < 1 := (x 0).isLt
  have h1 : (x 1).val < 1 := (x 1).isLt
  exact ⟨Fin.ext (by show (x 0).val = 0; omega), Fin.ext (by show (x 1).val = 0; omega)⟩

theorem shapeCast_id' {s : Shape} {α : Type} (v : s.Idx → α) (h : s.ShapeCasts s) : shapeCast s v h = v :=
  funext fun i => congrArg v (Shape.reshapeEquiv_self _ i)

theorem pay1_eq (x : Vec F S512x4096 .fp8e5m2) : k0_pay1 x = x := by
  unfold k0_pay1
  exact (shapeCast_id' _ _).trans (shapeCast_id' _ _)

theorem off4_eq (c : Dev nD) : k0_off4 c = rowOff (bwd c 0) := by revert c; decide
theorem off5_eq (c : Dev nD) : k0_off5 c 1#32 = rowOff (bwd c 1) ∧ k0_off5 c 2#32 = rowOff (bwd c 2) ∧ k0_off5 c 3#32 = rowOff (bwd c 3)
    ∧ k0_off5 c 4#32 = rowOff (bwd c 4) ∧ k0_off5 c 5#32 = rowOff (bwd c 5) ∧ k0_off5 c 6#32 = rowOff (bwd c 6)
    ∧ k0_off5 c 7#32 = rowOff (bwd c 7) := by revert c; decide

theorem bigSep_slots (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-! ## The points -/

variable (y : Dev nD → Dev nD → Vec F S512x256 .bf16)

section Point

variable (K : GSem nD τ sig → ℕ) (c : Dev nD) (W : Waits sig Unit) (i : grid0.Coords)
  {arg2 : Memref sig .tc .vmem S512x4096 .fp8e5m2} {harg2 : arg2.IsWhole}
  {arg3 : Memref sig .tc .vmem S4096x256 .fp8e5m2} {harg3 : arg3.IsWhole} {arg4 : Memref sig .tc .smem S1x1 .f32} {harg4 : arg4.IsWhole}
  {arg5 : Memref sig .tc .vmem S4096x256 .f32} {harg5 : arg5.IsWhole}
  (xv : Vec F S512x4096 .fp8e5m2) (wv : Vec F S4096x256 .fp8e5m2) (sv : Vec F S1x1 .f32)

set_option maxHeartbeats 1600000 in
theorem mid_run (d : ℕ) (s : Fin 8) (hs : s.val = d + 1) (h1 : ¬ k0_cond1 i = 1#1) (h2 : k0_cond2 i = 1#1) (h3 : ¬ k0_cond3 i = 1#1)
    (ho1 : k0_off1 i = slotOff s) (ho3 : k0_off3 i = slotOff s) (hdv : ∀ h, (⟨k0_dev9 i c, h⟩ : Dev nD) = fwd c s)
    (hqs : ∀ h, ((cc0_scratch3.slice (Rect.unit (s := S8) (k0_off2 i) S1.size h)).squeeze S_ squeezes_S1_S_).sem = sendS s)
    (hqr : ∀ h, ((cc0_scratch4.slice (Rect.unit (s := S8) (k0_off2 i) S1.size h)).squeeze S_ squeezes_S1_S_).sem = recvS s)
    (hy : k0_pay3 xv wv (sv one11) = y c (fwd c s)) (Q : PUnit → sProp 𝕄) :
    iprop((records y K ∗ (bigSep Finset.univ fun s => slotSt (F := F) c d s) ∗ owes (c : Thread nD τ) (recvOwed c d) W
        ∗ owns (c : Thread nD τ) xM fullShare xv ∗ owns (c : Thread nD τ) arg3 fullShare wv ∗ owns (c : Thread nD τ) arg4 fullShare sv)
      ∗ ((bigSep Finset.univ fun s => slotSt (F := F) c (d + 1) s) ∗ owes (c : Thread nD τ) (recvOwed c (d + 1)) W
        ∗ owns (c : Thread nD τ) xM fullShare xv ∗ owns (c : Thread nD τ) arg3 fullShare wv ∗ owns (c : Thread nD τ) arg4 fullShare sv -∗ Q ⟨⟩))
      ⊢ wp frame (wpE (defs₀ (F := F)) 𝒱₀ c none) Set.univ (bodyAt (F := F) i arg2 harg2 arg3 harg3 arg4 harg4 arg5 harg5) Q := by
  unfold bodyAt
  rw [cc0_body_eq_skeleton]
  unfold cc0_body_skel smemLoad smemLoadElt
  simp only [dif_neg h1, dif_pos h2, dif_neg h3, Prog.bind_lift, Prog.bind_op, Prog.pure_eq_ret, Prog.bind_ret, wp_deviceId]
  iintro ⟨⟨#HR, Hsl, HO, Hx, Hw, Hs⟩, Hk⟩
  iapply (wp_load_owned c xM xv off00) $$ [Hx]
  · iexact Hx
  iintro Hx
  iapply (wp_load_owned c arg3 wv off00) $$ [Hw]
  · iexact Hw
  iintro Hw
  iapply (wp_load_owned c arg4 sv off00) $$ [Hs]
  · iexact Hs
  iintro Hs
  iapply (wp_slot_send y K c d s hs W _ ((congrArg (k0_pay3 xv wv) (congrArg sv (idx11 _))).trans hy) (hdv _) ho1 ho3 (hqs _) (hqr _)) $$ [Hsl HO]
  · isplitr; · iexact HR
    isplitl [Hsl]; · iexact Hsl
    iexact HO
  iintro ⟨Hsl, HO⟩
  rw [wp_ret]
  imodintro
  iapply Hk
  isplitl [Hsl]; · iexact Hsl
  isplitl [HO]; · iexact HO
  isplitl [Hx]; · iexact Hx
  isplitl [Hw]; · iexact Hw
  iexact Hs

/-- The first point: the barrier, the input block kept, then as between. -/
theorem first_run (s : Fin 8) (hs : s.val = 0 + 1) (h1 : k0_cond1 i = 1#1) (h2 : k0_cond2 i = 1#1) (h3 : ¬ k0_cond3 i = 1#1)
    (ho1 : k0_off1 i = slotOff s) (ho3 : k0_off3 i = slotOff s) (hdv : ∀ h, (⟨k0_dev9 i c, h⟩ : Dev nD) = fwd c s)
    (hqs : ∀ h, ((cc0_scratch3.slice (Rect.unit (s := S8) (k0_off2 i) S1.size h)).squeeze S_ squeezes_S1_S_).sem = sendS s)
    (hqr : ∀ h, ((cc0_scratch4.slice (Rect.unit (s := S8) (k0_off2 i) S1.size h)).squeeze S_ squeezes_S1_S_).sem = recvS s)
    (hy : k0_pay3 xv wv (sv one11) = y c (fwd c s)) (Q : PUnit → sProp 𝕄) :
    iprop((records y K ∗ levAts L lv ∗ barSt (F := F) c ∗ (bigSep Finset.univ fun s => preSt (F := F) c s)
        ∗ (bigSep Finset.univ fun s => piece (F := F) c s) ∗ owes (c : Thread nD τ) (O₀ c) W
        ∗ (∃ f, (c : Thread nD τ).loc cc0_scratch0 ↦{fullShare} f)
        ∗ owns (c : Thread nD τ) arg2 fullShare xv ∗ owns (c : Thread nD τ) arg3 fullShare wv ∗ owns (c : Thread nD τ) arg4 fullShare sv)
      ∗ (semVal (barCell c) 0 ∗ (bigSep Finset.univ fun s => slotSt (F := F) c 1 s) ∗ (∃ W, owes (c : Thread nD τ) (recvOwed c 1) W)
        ∗ owns (c : Thread nD τ) xM fullShare xv ∗ owns (c : Thread nD τ) arg2 fullShare xv
        ∗ owns (c : Thread nD τ) arg3 fullShare wv ∗ owns (c : Thread nD τ) arg4 fullShare sv -∗ Q ⟨⟩))
      ⊢ wp frame (wpE (defs₀ (F := F)) 𝒱₀ c none) Set.univ (bodyAt (F := F) i arg2 harg2 arg3 harg3 arg4 harg4 arg5 harg5) Q := by
  unfold bodyAt
  rw [cc0_body_eq_skeleton]
  unfold cc0_body_skel smemLoad smemLoadElt
  simp only [dif_pos h1, dif_pos h2, dif_neg h3, Prog.bind_lift, Prog.bind_op, Prog.pure_eq_ret, Prog.bind_ret, wp_deviceId, wp_bind]
  iintro ⟨⟨#HR, #Hlev, Hbar, Hpre, Hpc, HO, ⟨%f, Hx⟩, Ha, Hw, Hs⟩, Hk⟩
  iapply (barrier_run y K c W i h1 _)
  isplitl [Hbar Hpre Hpc HO]
  · isplitr; · iexact HR
    isplitr; · iexact Hlev
    isplitl [Hbar]; · iexact Hbar
    isplitl [Hpre]; · iexact Hpre
    isplitl [Hpc]; · iexact Hpc
    iexact HO
  iintro ⟨Hb, Hsl, ⟨%W', HO⟩⟩
  iapply (wp_load_owned c arg2 xv off00) $$ [Ha]
  · iexact Ha
  iintro Ha
  iapply (wp_load_rect 𝒱₀ (c : Thread nD τ) none Set.univ (m := xM) (r := Rect.unit (s := S512x4096) ![0, 0] S512x4096.size inb_S512x4096_S512x4096_0_0)
    (S := Finset.univ) (q := fullShare) (f := f) (Finset.subset_univ _)) $$ [Hx]
  · iexact Hx
  iintro Hx
  iapply (wp_store 𝒱₀ (c : Thread nD τ) none Set.univ (m := xM) (r := Rect.unit (s := S512x4096) ![0, 0] S512x4096.size inb_S512x4096_S512x4096_0_0)
    (S := Finset.univ) (f := f) (Finset.subset_univ _)) $$ [Hx]
  · iexact Hx
  iintro Hx
  ihave Hx := (show ((xM.access (Rect.unit (s := S512x4096) ![0, 0] S512x4096.size inb_S512x4096_S512x4096_0_0)).loc (c : Thread nD τ)
        ↦[Finset.univ]{fullShare} ((xM.access (Rect.unit (s := S512x4096) ![0, 0] S512x4096.size inb_S512x4096_S512x4096_0_0)).write (Elt F) f
          (k0_pay1 xv) Finset.univ)) ⊢ (owns (c : Thread nD τ) xM fullShare xv : sProp 𝕄) from by
    unfold owns
    rw [show xM.view.set = Finset.univ from View.set_whole _]
    iintro H
    iexists _
    isplitr
    rotate_left
    · iexact H
    · ipureintro
      exact (write_full xM off00 inb_S512x4096_S512x4096_0_0 f (k0_pay1 xv)).trans (pay1_eq xv)) $$ Hx
  iapply (wp_load_owned c xM xv off00) $$ [Hx]
  · iexact Hx
  iintro Hx
  iapply (wp_load_owned c arg3 wv off00) $$ [Hw]
  · iexact Hw
  iintro Hw
  iapply (wp_load_owned c arg4 sv off00) $$ [Hs]
  · iexact Hs
  iintro Hs
  iapply (wp_slot_send y K c 0 s hs W' _ ((congrArg (k0_pay3 xv wv) (congrArg sv (idx11 _))).trans hy) (hdv _) ho1 ho3 (hqs _) (hqr _)) $$ [Hsl HO]
  · isplitr; · iexact HR
    isplitl [Hsl]; · iexact Hsl
    iexact HO
  iintro ⟨Hsl, HO⟩
  rw [wp_ret]
  imodintro
  iapply Hk
  isplitl [Hb]; · iexact Hb
  isplitl [Hsl]; · iexact Hsl
  isplitl [HO]; · iexists _; iexact HO
  isplitl [Hx]; · iexact Hx
  isplitl [Ha]; · iexact Ha
  isplitl [Hw]; · iexact Hw
  iexact Hs

theorem slots_of (Φ : Fin 8 → sProp 𝕄) : iprop(Φ 0 ∗ Φ 1 ∗ Φ 2 ∗ Φ 3 ∗ Φ 4 ∗ Φ 5 ∗ Φ 6 ∗ Φ 7) ⊢ bigSep Finset.univ Φ :=
  Entails.of_eq (bigSep_slots Φ).symm

/-- The last point: the own block stored, the seven blocks received; every cell of the two arrays closed, every slot back. -/
theorem last_run (h1 : ¬ k0_cond1 i = 1#1) (h2 : ¬ k0_cond2 i = 1#1) (h3 : k0_cond3 i = 1#1) (res : Fin 8 → Vec F S512x256 .f32)
    (hown : k0_pay2 xv wv (sv one11) = res 0) (hres : ∀ s, s ≠ 0 → extf .f32 (y (bwd c s) c) bitsLt_bf16_f32 = res s)
    (Q : PUnit → sProp 𝕄) :
    iprop((records y K ∗ (bigSep Finset.univ fun s => slotSt (F := F) c 7 s) ∗ (bigSep Finset.univ fun s => waitSt (F := F) c s)
        ∗ owes (c : Thread nD τ) (0 : CellTallies nD τ sig Unit) W
        ∗ owns (c : Thread nD τ) xM fullShare xv ∗ owns (c : Thread nD τ) arg3 fullShare wv ∗ owns (c : Thread nD τ) arg4 fullShare sv
        ∗ (∃ X, owns (c : Thread nD τ) arg5 fullShare X))
      ∗ ((bigSep Finset.univ fun s => semVal (sendCell c s) 0) ∗ (bigSep Finset.univ fun s => semVal (recvCell c s) 0)
        ∗ (bigSep Finset.univ fun s => sAny (F := F) c s) ∗ (bigSep Finset.univ fun s => rAny (F := F) c s)
        ∗ (∃ W, owes (c : Thread nD τ) (0 : CellTallies nD τ sig Unit) W)
        ∗ owns (c : Thread nD τ) xM fullShare xv ∗ owns (c : Thread nD τ) arg3 fullShare wv ∗ owns (c : Thread nD τ) arg4 fullShare sv
        ∗ owns (c : Thread nD τ) arg5 fullShare (fun j => res (gap c (rowDev j)) (inBlk j)) -∗ Q ⟨⟩))
      ⊢ wp frame (wpE (defs₀ (F := F)) 𝒱₀ c none) Set.univ (bodyAt (F := F) i arg2 harg2 arg3 harg3 arg4 harg4 arg5 harg5) Q := by
  unfold bodyAt
  rw [cc0_body_eq_skeleton]
  unfold cc0_body_skel smemLoad smemLoadElt
  rw [k0_part2_eq_skeleton, k0_part3_eq_skeleton, k0_part4_eq_skeleton, k0_part5_eq_skeleton, k0_part6_eq_skeleton]
  unfold k0_part2_skel k0_part3_skel k0_part4_skel k0_part5_skel k0_part6_skel
  simp only [dif_neg h1, dif_neg h2, dif_pos h3, Prog.bind_lift, Prog.bind_op, Prog.pure_eq_ret, Prog.bind_ret, wp_deviceId]
  rw [bigSep_slots (fun s => slotSt (F := F) c 7 s), bigSep_slots (fun s => waitSt (F := F) c s)]
  iintro ⟨⟨#HR, ⟨Hc0, Hc1, Hc2, Hc3, Hc4, Hc5, Hc6, Hc7⟩, ⟨Hw0, Hw1, Hw2, Hw3, Hw4, Hw5, Hw6, Hw7⟩, HO, Hx, Hw, Hs, ⟨%X, HM⟩⟩, Hk⟩
  iapply (wp_load_owned c xM xv off00) $$ [Hx]
  · iexact Hx
  iintro Hx
  iapply (wp_load_owned c arg3 wv off00) $$ [Hw]
  · iexact Hw
  iintro Hw
  iapply (wp_load_owned c arg4 sv off00) $$ [Hs]
  · iexact Hs
  iintro Hs
  ihave HM := (show (owns (c : Thread nD τ) arg5 fullShare X : sProp 𝕄) ⊢ ownsSat (c : Thread nD τ) arg5 fullShare (outOk c res 0) from by
    unfold owns ownsSat
    iintro ⟨%f, -, H⟩
    iexists f
    isplitr; · ipureintro; exact outOk_zero c res _
    iexact H) $$ HM
  iapply (wp_row_store c res arg5 0 _ ((congrArg (k0_pay2 xv wv) (congrArg sv (idx11 _))).trans hown) (off4_eq c)) $$ [HM]
  · iexact HM
  iintro HM
  iapply (wp_slot_recv y K c 1 (by decide) res k0_pay5 (hres 1 (by decide)) _ arg5 (by decide) (off5_eq c).1 rfl rfl) $$ [Hw1 Hc1 HM HO]
  · isplitr; · iexact HR
    isplitl [Hw1]; · iexact Hw1
    isplitl [Hc1]; · iexact Hc1
    isplitl [HM]; · iexact HM
    iexact HO
  iintro ⟨HS1, HV1, Hs1, Hr1, HM, ⟨%W1, HO⟩⟩
  iapply (wp_slot_recv y K c 2 (by decide) res k0_pay6 (hres 2 (by decide)) _ arg5 (by decide) (off5_eq c).2.1 rfl rfl) $$ [Hw2 Hc2 HM HO]
  · isplitr; · iexact HR
    isplitl [Hw2]; · iexact Hw2
    isplitl [Hc2]; · iexact Hc2
    isplitl [HM]; · iexact HM
    iexact HO
  iintro ⟨HS2, HV2, Hs2, Hr2, HM, ⟨%W2, HO⟩⟩
  iapply (wp_slot_recv y K c 3 (by decide) res k0_pay7 (hres 3 (by decide)) _ arg5 (by decide) (off5_eq c).2.2.1 rfl rfl) $$ [Hw3 Hc3 HM HO]
  · isplitr; · iexact HR
    isplitl [Hw3]; · iexact Hw3
    isplitl [Hc3]; · iexact Hc3
    isplitl [HM]; · iexact HM
    iexact HO
  iintro ⟨HS3, HV3, Hs3, Hr3, HM, ⟨%W3, HO⟩⟩
  iapply (wp_slot_recv y K c 4 (by decide) res k0_pay8 (hres 4 (by decide)) _ arg5 (by decide) (off5_eq c).2.2.2.1 rfl rfl) $$ [Hw4 Hc4 HM HO]
  · isplitr; · iexact HR
    isplitl [Hw4]; · iexact Hw4
    isplitl [Hc4]; · iexact Hc4
    isplitl [HM]; · iexact HM
    iexact HO
  iintro ⟨HS4, HV4, Hs4, Hr4, HM, ⟨%W4, HO⟩⟩
  iapply (wp_slot_recv y K c 5 (by decide) res k0_pay9 (hres 5 (by decide)) _ arg5 (by decide) (off5_eq c).2.2.2.2.1 rfl rfl) $$ [Hw5 Hc5 HM HO]
  · isplitr; · iexact HR
    isplitl [Hw5]; · iexact Hw5
    isplitl [Hc5]; · iexact Hc5
    isplitl [HM]; · iexact HM
    iexact HO
  iintro ⟨HS5, HV5, Hs5, Hr5, HM, ⟨%W5, HO⟩⟩
  iapply (wp_slot_recv y K c 6 (by decide) res k0_pay10 (hres 6 (by decide)) _ arg5 (by decide) (off5_eq c).2.2.2.2.2.1 rfl rfl) $$ [Hw6 Hc6 HM HO]
  · isplitr; · iexact HR
    isplitl [Hw6]; · iexact Hw6
    isplitl [Hc6]; · iexact Hc6
    isplitl [HM]; · iexact HM
    iexact HO
  iintro ⟨HS6, HV6, Hs6, Hr6, HM, ⟨%W6, HO⟩⟩
  iapply (wp_slot_recv y K c 7 (by decide) res k0_pay4 (hres 7 (by decide)) _ arg5 (by decide) (off5_eq c).2.2.2.2.2.2 rfl rfl) $$ [Hw7 Hc7 HM HO]
  · isplitr; · iexact HR
    isplitl [Hw7]; · iexact Hw7
    isplitl [Hc7]; · iexact Hc7
    isplitl [HM]; · iexact HM
    iexact HO
  iintro ⟨HS7, HV7, Hs7, Hr7, HM, ⟨%W7, HO⟩⟩
  -- slot 0 of both arrays was never used: its cells close as they are
  unfold waitSt slotSt
  simp only [if_true]
  icases Hw0 with ⟨HatS, HatV, -⟩
  icases Hc0 with ⟨Hs0, Hr0⟩
  imod (close0 y (K (recvCell c 0)) (recvCell c 0) (duties_recv0 y c)) $$ [HatV] with HV0
  · isplitr; · iapply (inv_at y K (recv_mem c 0)); iexact HR
    iexact HatV
  imod (close0 y (K (sendCell c 0)) (sendCell c 0) (duties_send0 y c)) $$ [HatS] with HS0
  · isplitr; · iapply (inv_at y K (send_mem c 0)); iexact HR
    iexact HatS
  rw [wp_ret]
  imodintro
  iapply Hk
  isplitl [HS0 HS1 HS2 HS3 HS4 HS5 HS6 HS7]
  · iapply (slots_of (fun s => semVal (sendCell c s) 0))
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [HV0 HV1 HV2 HV3 HV4 HV5 HV6 HV7]
  · iapply (slots_of (fun s => semVal (recvCell c s) 0))
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  isplitl [Hs0 Hs1 Hs2 Hs3 Hs4 Hs5 Hs6 Hs7]
  · iapply (slots_of (fun s => sAny (F := F) c s))
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    iexact Hs7
  isplitl [Hr0 Hr1 Hr2 Hr3 Hr4 Hr5 Hr6 Hr7]
  · iapply (slots_of (fun s => rAny (F := F) c s))
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  isplitl [HO]; · iexists _; iexact HO
  isplitl [Hx]; · iexact Hx
  isplitl [Hw]; · iexact Hw
  isplitl [Hs]; · iexact Hs
  iapply (show (ownsSat (c : Thread nD τ) arg5 fullShare (outOk c res 8) : sProp 𝕄)
      ⊢ owns (c : Thread nD τ) arg5 fullShare (fun j => res (gap c (rowDev j)) (inBlk j)) from by
    unfold owns ownsSat
    iintro ⟨%f, %hf, H⟩
    iexists f
    isplitr; · ipureintro; exact outOk_full c res _ hf
    iexact H)
  iexact HM

end Point

end Cert.KernelIdeal.Exchange

end
-- ==== Proof.Contents.lean ====
/-
  The table of the column blocks, the contents the region finds, and what the devices send and store.
-/
module

public import proofs.«01_k».proof.Proof.Points
public import proofs.«01_k».proof.Proof.Gen.KernelIdeal.Regions
public import Idealize.ShloMosaic.Lib.StableHlo.RunRead
public import Idealize.ShloMosaic.Lib.Pipeline.Value
public import Idealize.ShloMosaic.Lib.Pipeline.FrameBody

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The table -/

theorem host_word : ∀ c : Dev nD, IntOp.remui .host (IntOp.divui .host (Dev.word c) 1#32) 8#32 = Dev.word c := by decide

/-- The prefetched table holds the device's own number. -/
theorem V1_table (c : Dev nD) : V1 m c main_v9 = (fun _ => Dev.word c : S1.Idx → BitVec 32) := by
  unfold V1
  after_reads_simp
  funext j
  exact host_word c

def tab (c : Dev nD) : pre0.Contents (Elt F) := fun k => V1 m c (pre0.ref k)

theorem col_word : ∀ (c : Dev nD) (d : Fin 8),
    (Scalar.remsi (Scalar.addi (Scalar.addi (Dev.word c) (BitVec.ofNat 32 d.val)) 1#32) 8#32).toNat = (c.val + d.val + 1) % 8 := by decide

theorem tab_at (c : Dev nD) : (tab m c).at 0 (Rect.unit (s := S1) ![0] S1.size inb_S1_S1_0) numel1_S1 = Dev.word c := by
  show tab m c 0 _ = _
  unfold tab
  show V1 m c main_v9 _ = _
  rw [V1_table]

theorem col_ix (c : Dev nD) (i : grid0.Coords) :
    cc0_transform_1 inb_S1_S1_0 numel1_S1 (tab m c) i = ![0, (c.val + (i 0).val + 1) % 8] := by
  unfold cc0_transform_1
  rw [tab_at]
  exact congrArg (fun n => ![0, n]) (col_word c (i 0))

theorem ok_tab (c : Dev nD) : ok0 (tab m c) := fun i =>
  ⟨fun a => by
    rw [col_ix]
    revert a
    have : (c.val + (i 0).val + 1) % 8 < 8 := Nat.mod_lt _ (by decide)
    rw [Fin.forall_fin_two]
    constructor
    · show (0 + 1) * 4096 ≤ 4096; omega
    · show ((c.val + (i 0).val + 1) % 8 + 1) * 256 ≤ 2048; omega,
   .inr (Affine.block_words_dvd (of_decide_eq_true rfl) (by decide))⟩

/-- The tables' contents, one device at a time. -/
def adm (c : Dev nD) (p : Fin 1) : (pcfgs (F := F) p).Adm := ⟨tab m c, ok_tab m c⟩

/-- The region's configuration on device `c`. -/
abbrev cfgD (c : Dev nD) : Cfg sig Λ₀ := Pipeline.pinD (pcfgs (F := F)) (adm m) c 0

/-! ## The contents -/

/-- Window `w`'s block at point `t`. -/
def iblk (c : Dev nD) (w : Fin (cfgD m c).W) (t : Fin (cfgD m c).N) :
    (((cfgD m c).win w).xblock ((cfgD m c).grid.coords t)).Idx → Elt F ((cfgD m c).win w).elt :=
  (((cfgD m c).win w).blk t).view.read (Elt F) (V1 m c (Pipeline.arrRef spec0 w))

/-- The rows of device `c`. -/
def xin (c : Dev nD) : Vec F S512x4096 .fp8e5m2 := V1 m c main_arg0
/-- The columns of device `p`, held by `c`. -/
def colIx (p : Dev nD) (j : S4096x256.Idx) : S4096x2048.Idx :=
  Fin.cons ⟨(j 0).val, (j 0).isLt⟩ (Fin.cons ⟨p.val * 256 + (j 1).val, by
    have h : (j 1).val < 256 := (j 1).isLt
    have hp : p.val < 8 := p.isLt
    show _ < 2048
    omega⟩ finZeroElim)
def wcol (c p : Dev nD) : Vec F S4096x256 .fp8e5m2 := fun j => V1 m c main_arg1 (colIx p j)
/-- The scale held by `c`. -/
def scl (c : Dev nD) : Vec F S1x1 .f32 := V1 m c main_v4

/-- What `src` sends to `dst`: the product of its rows with the columns of `dst`, scaled and cut at zero. -/
def yv (src dst : Dev nD) : Vec F S512x256 .bf16 := k0_pay3 (xin m src) (wcol m src dst) (scl m src one11)
/-- What `c` stores: its own block as computed, the others as received. -/
def resv (c : Dev nD) (s : Fin 8) : Vec F S512x256 .f32 :=
  if s = 0 then k0_pay2 (xin m c) (wcol m c c) (scl m c one11) else extf .f32 (yv m (bwd c s) c) bitsLt_bf16_f32
def outv (c : Dev nD) : Vec F S4096x256 .f32 := fun j => resv m c (gap c (rowDev j)) (inBlk j)

theorem point_lt (c : Dev nD) (t : Fin (cfgD m c).N) : t.val < 8 := t.isLt
theorem point_coord (c : Dev nD) (t : Fin (cfgD m c).N) : (((cfgD m c).grid.coords t) 0).val = t.val := by
  show t.val / 1 % 8 = t.val
  have := point_lt m c t
  omega

theorem iblk_0 (c : Dev nD) (t : Fin (cfgD m c).N) : iblk m c 0 t = xin m c := by
  unfold iblk
  funext j
  show V1 m c main_arg0 ((((cfgD m c).win 0).rect t).emb j) = V1 m c main_arg0 j
  refine congrArg (V1 m c main_arg0) (funext fun a => Fin.ext ?_)
  refine (((cfgD m c).win 0).rect_emb_val_of_index_zero t a ?_ j)
  revert a
  exact Fin.forall_fin_two.mpr ⟨rfl, rfl⟩
theorem iblk_2 (c : Dev nD) (t : Fin (cfgD m c).N) : iblk m c 2 t = scl m c := by
  unfold iblk
  funext j
  show V1 m c main_v4 ((((cfgD m c).win 2).rect t).emb j) = V1 m c main_v4 j
  refine congrArg (V1 m c main_v4) (funext fun a => Fin.ext ?_)
  refine (((cfgD m c).win 2).rect_emb_val_of_index_zero t a ?_ j)
  revert a
  exact Fin.forall_fin_two.mpr ⟨rfl, rfl⟩
theorem iblk_1 (c : Dev nD) (t : Fin (cfgD m c).N) (p : Dev nD) (hp : (c.val + t.val + 1) % 8 = p.val) : iblk m c 1 t = wcol m c p := by
  unfold iblk
  funext j
  show V1 m c main_arg1 ((((cfgD m c).win 1).rect t).emb j) = V1 m c main_arg1 (colIx p j)
  refine congrArg (V1 m c main_arg1) (funext fun a => Fin.ext ?_)
  have hix : ((cfgD m c).win 1).index t = ![0, p.val] := by
    show cc0_transform_1 inb_S1_S1_0 numel1_S1 (tab m c) ((cfgD m c).grid.coords t) = _
    rw [col_ix, point_coord, hp]
  refine (((cfgD m c).win 1).rect_emb_val t j a).trans ?_
  rw [hix]
  revert a
  refine Fin.forall_fin_two.mpr ⟨?_, ?_⟩
  · exact Nat.zero_add _
  · rfl

end Cert.KernelIdeal.Exchange

end
-- ==== Proof.Region.lean ====
/-
  The region's proof data and its body at every point.
-/
module

public import proofs.«01_k».proof.Proof.Contents

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The points -/

theorem cond1_at : ∀ t : Fin grid0.N, k0_cond1 (grid0.coords t) = 1#1 ↔ t.val = 0 := by decide
theorem cond2_at : ∀ t : Fin grid0.N, k0_cond2 (grid0.coords t) = 1#1 ↔ t.val < 7 := by decide
theorem cond3_at : ∀ t : Fin grid0.N, k0_cond3 (grid0.coords t) = 1#1 ↔ t.val = 7 := by decide

theorem coord_at (t : Fin grid0.N) : ((grid0.coords t) 0).val = t.val := by
  have : t.val < 8 := t.isLt
  show t.val / 1 % 8 = t.val
  omega

/-- The slot the copy of point `t` uses. -/
def slotAt (t : Fin grid0.N) (h : t.val < 7) : Fin 8 := ⟨t.val + 1, by omega⟩

theorem off1_at (t : Fin grid0.N) (h : t.val < 7) : k0_off1 (grid0.coords t) = slotOff (slotAt t h) := by
  rw [k0_off1_eq, coord_at]
  exact congrArg (fun n => ![0, n]) (show 256 * t.val + 256 = (t.val + 1) * 256 by omega)
theorem off3_at (t : Fin grid0.N) (h : t.val < 7) : k0_off3 (grid0.coords t) = slotOff (slotAt t h) := by
  rw [k0_off3_eq, coord_at]
  exact congrArg (fun n => ![0, n]) (show 256 * t.val + 256 = (t.val + 1) * 256 by omega)
theorem dev_at (t : Fin grid0.N) (h : t.val < 7) (c : Dev nD) (hlt : k0_dev9 (grid0.coords t) c < nD) :
    (⟨k0_dev9 (grid0.coords t) c, hlt⟩ : Dev nD) = fwd c (slotAt t h) := by
  apply Fin.ext
  show k0_dev9 (grid0.coords t) c = _
  rw [k0_dev9_eq, coord_at]
  exact congrArg (· % 8) (show c.val + t.val + 1 = c.val + (t.val + 1) by omega)
theorem sendS_off (s : Fin 8) {off : Fin 1 → ℕ} (ho : off = ![s.val]) (h : ∀ a, off a + S1.size a ≤ S8.size a) :
    ((cc0_scratch3.slice (Rect.unit (s := S8) off S1.size h)).squeeze S_ squeezes_S1_S_).sem = sendS s := by
  subst ho; revert s; decide
theorem recvS_off (s : Fin 8) {off : Fin 1 → ℕ} (ho : off = ![s.val]) (h : ∀ a, off a + S1.size a ≤ S8.size a) :
    ((cc0_scratch4.slice (Rect.unit (s := S8) off S1.size h)).squeeze S_ squeezes_S1_S_).sem = recvS s := by
  subst ho; revert s; decide
theorem off2_at (t : Fin grid0.N) (h : t.val < 7) : k0_off2 (grid0.coords t) = ![(slotAt t h).val] := by
  rw [k0_off2_eq, coord_at]; rfl

theorem recvOwed_end (c : Dev nD) : recvOwed c 8 = 0 := by
  unfold recvOwed
  rw [Finset.filter_false_of_mem (fun t _ => by have := t.isLt; omega), Finset.sum_empty]

/-! ## The proof data -/

variable (c : Dev nD)

/-- Before the first point. -/
def Φ0 : sProp 𝕄 :=
  iprop((∃ K, records (yv m) K) ∗ levAts L lv ∗ barSt (F := F) c ∗ (bigSep Finset.univ fun s => preSt (F := F) c s)
    ∗ (bigSep Finset.univ fun s => piece (F := F) c s) ∗ (bigSep Finset.univ fun s => waitSt (F := F) c s)
    ∗ ∃ f, (c : Thread nD τ).loc cc0_scratch0 ↦{fullShare} f)
/-- After the copy of point `d - 1`. -/
def Φmid (d : ℕ) : sProp 𝕄 :=
  iprop((∃ K, records (yv m) K) ∗ semVal (barCell c) 0 ∗ (bigSep Finset.univ fun s => slotSt (F := F) c d s)
    ∗ (bigSep Finset.univ fun s => waitSt (F := F) c s) ∗ owns (c : Thread nD τ) xM fullShare (xin m c))
/-- After the last point. -/
def Φend : sProp 𝕄 :=
  iprop(semVal (barCell c) 0 ∗ (bigSep Finset.univ fun s => semVal (sendCell c s) 0) ∗ (bigSep Finset.univ fun s => semVal (recvCell c s) 0)
    ∗ (bigSep Finset.univ fun s => sAny (F := F) c s) ∗ (bigSep Finset.univ fun s => rAny (F := F) c s)
    ∗ owns (c : Thread nD τ) xM fullShare (xin m c))
def Φat (t : ℕ) : sProp 𝕄 := if t = 0 then Φ0 m c else if t = 8 then Φend m c else Φmid m c t
def owedAt (t : ℕ) : CellTallies nD τ sig Unit := if t = 0 then O₀ c else recvOwed c t

def dat : Dat τ (Elt F) Unit ℕ UU ℕ (cfgD m c) c where
  A w := V1 m c (Pipeline.arrRef spec0 w)
  after w t := match w with
    | ⟨0, _⟩ => xin m c
    | ⟨1, _⟩ => iblk m c 1 t
    | ⟨2, _⟩ => scl m c
    | ⟨3, _⟩ => outv m c
  Φ t := Φat m c t.val
  q _ := fullShare
  owed t := owedAt c t.val

theorem A_eq (w : Fin 4) : (dat m c).A w = V1 m c (Pipeline.arrRef spec0 w) := by dsimp only [dat]
theorem after_0 (t : Fin (cfgD m c).N) : (dat m c).after 0 t = xin m c := by rfl
theorem after_1 (t : Fin (cfgD m c).N) : (dat m c).after 1 t = iblk m c 1 t := by rfl
theorem after_2 (t : Fin (cfgD m c).N) : (dat m c).after 2 t = scl m c := by rfl
theorem after_3 (t : Fin (cfgD m c).N) : (dat m c).after 3 t = outv m c := by rfl

theorem before_0 (t : Fin (cfgD m c).N) (d) : (dat m c).before 0 t d = xin m c := by
  refine ((dat m c).before_in_eq_fetched 0 rfl (fun _ => rfl) (fun _ _ _ => rfl) (fun t => ?_) t d).trans ?_
  · rw [after_0, ← iblk_0 m c t]; unfold Dat.blockOf iblk; rw [A_eq]; try rfl
  · rw [← iblk_0 m c t]; unfold Dat.fetched Dat.blockOf iblk; rw [A_eq]; try rfl
theorem before_1 (t : Fin (cfgD m c).N) (d) : (dat m c).before 1 t d = iblk m c 1 t := by
  refine ((dat m c).before_in_eq_fetched 1 rfl (fun _ => rfl) (fun _ _ _ => rfl) (fun t => ?_) t d).trans ?_
  · rw [after_1]; unfold Dat.blockOf iblk; rw [A_eq]; try rfl
  · unfold Dat.fetched Dat.blockOf iblk; rw [A_eq]; try rfl
theorem before_2 (t : Fin (cfgD m c).N) (d) : (dat m c).before 2 t d = scl m c := by
  refine ((dat m c).before_in_eq_fetched 2 rfl (fun _ => rfl) (fun _ _ _ => rfl) (fun t => ?_) t d).trans ?_
  · rw [after_2, ← iblk_2 m c t]; unfold Dat.blockOf iblk; rw [A_eq]; try rfl
  · rw [← iblk_2 m c t]; unfold Dat.fetched Dat.blockOf iblk; rw [A_eq]; try rfl

theorem flush_3 (t : Fin (cfgD m c).N) : ((cfgD m c).win 3).flush t = true ↔ t.val = 7 := by
  rw [Pipeline.Window.flush_const _ rfl (fun _ _ => rfl) (n := 8) (m := 7) N_0 rfl t]
  have := point_lt m c t
  omega
theorem idle_3 (t : Fin (cfgD m c).N) : (cfgD m c).idle 3 ((cfgD m c).grid.coords t) = true ↔ t.val ≠ 7 := by
  show (!(k0_cond3 (grid0.coords t) == 1#1)) = true ↔ _
  rw [Bool.not_eq_true', beq_eq_false_iff_ne]
  exact not_congr (cond3_at t)

theorem defs_row (t : Fin (cfgD m c).N) : defs₀ (F := F) .tc (cfgD m c).body ((cfgD m c).bodyArgs t ((cfgD m c).slots t))
    = bodyAt (grid0.coords t) (spec0_0.stage ((cfgD m c).slots t 0)) (hstage0_0 (((cfgD m c).slots t 0).cast nbuf0_0))
      (spec0_1.stage ((cfgD m c).slots t 1)) (hstage0_1 (((cfgD m c).slots t 1).cast nbuf0_1))
      (spec0_2.stage ((cfgD m c).slots t 2)) (hstage0_2 (((cfgD m c).slots t 2).cast nbuf0_2))
      (spec0_3.stage ((cfgD m c).slots t 3)) (hstage0_3 (((cfgD m c).slots t 3).cast nbuf0_3)) := by
  unfold defs₀
  rw [Defs.onTc_tc]

/-! ## The body at a point -/

theorem owed_intro (t : Fin ((cfgD m c).N + 1)) (O : CellTallies nD τ sig Unit) (h0 : owedAt c t.val = O) (W : Waits sig Unit) :
    (owes (c : Thread nD τ) O W : sProp 𝕄) ⊢ ((dat m c).owesAt () t : sProp 𝕄) := by
  unfold Dat.owesAt Pipeline.owesWithin Dat.bound
  rw [show (dat m c).owed t = O from h0, show (dat m c).recorded t = Set.univ from rfl]
  iintro HO; iexists W; isplitr
  · ipureintro; exact fun _ _ => Or.inl trivial
  iexact HO
theorem owed_elim (t : Fin ((cfgD m c).N + 1)) (O : CellTallies nD τ sig Unit) (h0 : owedAt c t.val = O) :
    ((dat m c).owesAt () t : sProp 𝕄) ⊢ iprop(∃ W, owes (c : Thread nD τ) O W) := by
  unfold Dat.owesAt Pipeline.owesWithin
  rw [show (dat m c).owed t = O from h0]
  iintro ⟨%W, -, HO⟩; iexists W; iexact HO

/-- The staging buffer window `w` uses at point `t`. -/
abbrev stg (t : Fin (cfgD m c).N) (w : Fin 4) := ((cfgD m c).win w).stage ((cfgD m c).slots t w)

def pre_at (t : Fin (cfgD m c).N) : sProp 𝕄 :=
  iprop(Φat m c t.val ∗ (dat m c).owesAt () t.castSucc ∗ (∃ d, owns (c : Thread nD τ) (stg m c t 0) fullShare ((dat m c).before 0 t d))
    ∗ (∃ d, owns (c : Thread nD τ) (stg m c t 1) fullShare ((dat m c).before 1 t d))
    ∗ (∃ d, owns (c : Thread nD τ) (stg m c t 2) fullShare ((dat m c).before 2 t d))
    ∗ (∃ d, owns (c : Thread nD τ) (stg m c t 3) fullShare ((dat m c).before 3 t d)))
def post_at (t : Fin (cfgD m c).N) : sProp 𝕄 :=
  iprop(Φat m c (t.val + 1) ∗ (dat m c).owesAt () t.succ ∗ owns (c : Thread nD τ) (stg m c t 0) fullShare (xin m c)
    ∗ owns (c : Thread nD τ) (stg m c t 1) fullShare (iblk m c 1 t) ∗ owns (c : Thread nD τ) (stg m c t 2) fullShare (scl m c)
    ∗ (dat m c).leavesExact 3 t)

/-- What the body runs from, the inputs at their blocks. -/
theorem pre_open (t : Fin (cfgD m c).N) : pre_at m c t ⊢ iprop(Φat m c t.val ∗ (∃ W, owes (c : Thread nD τ) (owedAt c t.val) W)
    ∗ owns (c : Thread nD τ) (stg m c t 0) fullShare (xin m c)
    ∗ owns (c : Thread nD τ) (stg m c t 1) fullShare (iblk m c 1 t) ∗ owns (c : Thread nD τ) (stg m c t 2) fullShare (scl m c)
    ∗ (∃ d, owns (c : Thread nD τ) (stg m c t 3) fullShare ((dat m c).before 3 t d))) := by
  unfold pre_at
  simp only [before_0, before_1, before_2]
  iintro ⟨HP, HO, ⟨%_, H0⟩, ⟨%_, H1⟩, ⟨%_, H2⟩, H3⟩
  isplitl [HP]; · iexact HP
  isplitl [HO]; · iapply (owed_elim m c t.castSucc (owedAt c t.val) rfl); iexact HO
  isplitl [H0]; · iexact H0
  isplitl [H1]; · iexact H1
  isplitl [H2]; · iexact H2
  iexact H3

/-- Before the last point the result's buffer is left as found. -/
theorem leaves_3 (t : Fin (cfgD m c).N) (h : t.val ≠ 7) : (dat m c).leavesExact 3 t
    = iprop(∃ d, owns (c : Thread nD τ) (stg m c t 3) fullShare ((dat m c).before 3 t d)) :=
  (dat m c).leavesExact_idle 3 t ((idle_3 m c t).mpr h) (by rw [Bool.eq_false_iff]; exact fun hf => h ((flush_3 m c t).mp hf))

theorem iblk_send (t : Fin (cfgD m c).N) (h : t.val < 7) :
    k0_pay3 (xin m c) (iblk m c 1 t) (scl m c one11) = yv m c (fwd c (slotAt t h)) := by
  rw [iblk_1 m c t (fwd c (slotAt t h))]
  · rfl
  · exact congrArg (· % 8) (show c.val + t.val + 1 = c.val + (t.val + 1) by omega)

abbrev bodyOf (t : Fin (cfgD m c).N) :=
  bodyAt (F := F) (grid0.coords t) (spec0_0.stage ((cfgD m c).slots t 0)) (hstage0_0 (((cfgD m c).slots t 0).cast nbuf0_0))
      (spec0_1.stage ((cfgD m c).slots t 1)) (hstage0_1 (((cfgD m c).slots t 1).cast nbuf0_1))
      (spec0_2.stage ((cfgD m c).slots t 2)) (hstage0_2 (((cfgD m c).slots t 2).cast nbuf0_2))
      (spec0_3.stage ((cfgD m c).slots t 3)) (hstage0_3 (((cfgD m c).slots t 3).cast nbuf0_3))

theorem body_first (t : Fin (cfgD m c).N) (h : t.val = 0) :
    pre_at m c t ⊢ wp frame (wpE (defs₀ (F := F)) 𝒱₀ c none) Set.univ (bodyOf m c t) fun _ => post_at m c t := by
  have h7 : t.val < 7 := by omega
  refine (pre_open m c t).trans ?_
  unfold post_at
  rw [leaves_3 m c t (by omega), h, show Φat m c 0 = Φ0 m c from rfl, show Φat m c (0 + 1) = Φmid m c 1 from rfl,
    show owedAt c 0 = O₀ c from rfl]
  unfold Φ0 Φmid
  iintro ⟨⟨⟨%K, #HR⟩, #Hlev, Hbar, Hpre, Hpc, Hwt, Hx⟩, ⟨%W, HO⟩, H0, H1, H2, H3⟩
  iapply (first_run (yv m) K c W (grid0.coords t) (xin m c) (iblk m c 1 t) (scl m c) (slotAt t h7) (congrArg (· + 1) h)
    ((cond1_at t).mpr h) ((cond2_at t).mpr h7) (fun h' => by have := (cond3_at t).mp h'; omega)
    (off1_at t h7) (off3_at t h7) (fun hlt => dev_at t h7 c hlt) (fun hh => sendS_off _ (off2_at t h7) hh)
    (fun hh => recvS_off _ (off2_at t h7) hh) (iblk_send m c t h7) _)
  isplitl [Hbar Hpre Hpc Hx HO H0 H1 H2]
  · isplitr; · iexact HR
    isplitr; · iexact Hlev
    isplitl [Hbar]; · iexact Hbar
    isplitl [Hpre]; · iexact Hpre
    isplitl [Hpc]; · iexact Hpc
    isplitl [HO]; · iexact HO
    isplitl [Hx]; · iexact Hx
    isplitl [H0]; · iexact H0
    isplitl [H1]; · iexact H1
    iexact H2
  iintro ⟨Hb, Hsl, ⟨%W', HO⟩, Hx, H0, H1, H2⟩
  isplitl [Hb Hsl Hwt Hx]
  · isplitr; · iexists K; iexact HR
    isplitl [Hb]; · iexact Hb
    isplitl [Hsl]; · iexact Hsl
    isplitl [Hwt]; · iexact Hwt
    iexact Hx
  isplitl [HO]
  · iapply (owed_intro m c t.succ (recvOwed c 1) (by rw [Fin.val_succ, h]; rfl) W'); iexact HO
  isplitl [H0]; · iexact H0
  isplitl [H1]; · iexact H1
  isplitl [H2]; · iexact H2
  iexact H3

theorem body_mid (t : Fin (cfgD m c).N) (h : t.val ≠ 0) (h7 : t.val < 7) :
    pre_at m c t ⊢ wp frame (wpE (defs₀ (F := F)) 𝒱₀ c none) Set.univ (bodyOf m c t) fun _ => post_at m c t := by
  refine (pre_open m c t).trans ?_
  unfold post_at
  rw [leaves_3 m c t (by omega), show Φat m c t.val = Φmid m c t.val from (if_neg h).trans (if_neg (by omega)),
    show Φat m c (t.val + 1) = Φmid m c (t.val + 1) from (if_neg (by omega)).trans (if_neg (by omega)),
    show owedAt c t.val = recvOwed c t.val from if_neg h]
  unfold Φmid
  iintro ⟨⟨⟨%K, #HR⟩, Hb, Hsl, Hwt, Hx⟩, ⟨%W, HO⟩, H0, H1, H2, H3⟩
  iapply (mid_run (yv m) K c W (grid0.coords t) (xin m c) (iblk m c 1 t) (scl m c) t.val (slotAt t h7) rfl
    (fun h' => h ((cond1_at t).mp h')) ((cond2_at t).mpr h7) (fun h' => by have := (cond3_at t).mp h'; omega)
    (off1_at t h7) (off3_at t h7) (fun hlt => dev_at t h7 c hlt) (fun hh => sendS_off _ (off2_at t h7) hh)
    (fun hh => recvS_off _ (off2_at t h7) hh) (iblk_send m c t h7) _)
  isplitl [Hsl Hx HO H1 H2]
  · isplitr; · iexact HR
    isplitl [Hsl]; · iexact Hsl
    isplitl [HO]; · iexact HO
    isplitl [Hx]; · iexact Hx
    isplitl [H1]; · iexact H1
    iexact H2
  iintro ⟨Hsl, HO, Hx, H1, H2⟩
  isplitl [Hb Hsl Hwt Hx]
  · isplitr; · iexists K; iexact HR
    isplitl [Hb]; · iexact Hb
    isplitl [Hsl]; · iexact Hsl
    isplitl [Hwt]; · iexact Hwt
    iexact Hx
  isplitl [HO]
  · iapply (owed_intro m c t.succ (recvOwed c (t.val + 1)) (if_neg (by rw [Fin.val_succ]; omega)) W); iexact HO
  isplitl [H0]; · iexact H0
  isplitl [H1]; · iexact H1
  isplitl [H2]; · iexact H2
  iexact H3

theorem body_last (t : Fin (cfgD m c).N) (h : t.val = 7) :
    pre_at m c t ⊢ wp frame (wpE (defs₀ (F := F)) 𝒱₀ c none) Set.univ (bodyOf m c t) fun _ => post_at m c t := by
  refine (pre_open m c t).trans ?_
  unfold post_at
  rw [show (dat m c).leavesExact 3 t = owns (c : Thread nD τ) (stg m c t 3) fullShare (outv m c) from by
      unfold Dat.leavesExact
      rw [show (cfgD m c).idle 3 ((cfgD m c).grid.coords t) = false from Bool.eq_false_iff.mpr fun hi => (idle_3 m c t).mp hi h]
      rfl,
    h, show Φat m c 7 = Φmid m c 7 from rfl, show Φat m c (7 + 1) = Φend m c from rfl,
    show owedAt c 7 = 0 from recvOwed_last c,
    iblk_1 m c t c (by rw [h]; have : c.val < 8 := c.isLt; omega)]
  unfold Φmid Φend
  iintro ⟨⟨⟨%K, #HR⟩, Hb, Hsl, Hwt, Hx⟩, ⟨%W, HO⟩, H0, H1, H2, ⟨%d, H3⟩⟩
  iapply (last_run (yv m) K c W (grid0.coords t) (xin m c) (wcol m c c) (scl m c)
    (fun h' => by have := (cond1_at t).mp h'; omega) (fun h' => by have := (cond2_at t).mp h'; omega) ((cond3_at t).mpr h)
    (resv m c) (if_pos rfl).symm (fun s hs => (if_neg hs).symm) _)
  isplitl [Hsl Hwt Hx HO H1 H2 H3]
  · isplitr; · iexact HR
    isplitl [Hsl]; · iexact Hsl
    isplitl [Hwt]; · iexact Hwt
    isplitl [HO]; · iexact HO
    isplitl [Hx]; · iexact Hx
    isplitl [H1]; · iexact H1
    isplitl [H2]; · iexact H2
    iexists _; iexact H3
  iintro ⟨Hs, Hr, Hsa, Hra, ⟨%W', HO⟩, Hx, H1, H2, H3⟩
  isplitl [Hb Hs Hr Hsa Hra Hx]
  · isplitl [Hb]; · iexact Hb
    isplitl [Hs]; · iexact Hs
    isplitl [Hr]; · iexact Hr
    isplitl [Hsa]; · iexact Hsa
    isplitl [Hra]; · iexact Hra
    iexact Hx
  isplitl [HO]
  · iapply (owed_intro m c t.succ 0 (by rw [Fin.val_succ, h]; exact recvOwed_end c) W'); iexact HO
  isplitl [H0]; · iexact H0
  isplitl [H1]; · iexact H1
  isplitl [H2]; · iexact H2
  iexact H3

theorem body_at (t : Fin (cfgD m c).N) :
    pre_at m c t ⊢ wp frame (wpE (defs₀ (F := F)) 𝒱₀ c none) Set.univ (bodyOf m c t) fun _ => post_at m c t := by
  have h8 := point_lt m c t
  by_cases h0 : t.val = 0
  · exact body_first m c t h0
  by_cases h7 : t.val = 7
  · exact body_last m c t h7
  exact body_mid m c t h0 (by omega)

theorem body_obligation : BodyObligation (dat m c) (defs₀ (F := F)) 𝒱₀ () Set.univ := fun t => by
  rw [bigSep_W0, bigSep_W0, defs_row]
  exact body_at m c t

end Cert.KernelIdeal.Exchange

end
-- ==== Proof.Segment.lean ====
/-
  The kernel's region as a segment of the host program: what enters it, what leaves it.
-/
module

public import proofs.«01_k».proof.Proof.Region

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The semaphores of the two arrays -/

theorem zip_sep {I : Type} {s : Finset I} {Φ Ψ : I → sProp 𝕄} : iprop(bigSep s Φ ∗ bigSep s Ψ) ⊢ bigSep s fun i => iprop(Φ i ∗ Ψ i) :=
  Entails.of_eq (bigSep_sep' s Φ Ψ).symm
theorem unzip_sep {I : Type} {s : Finset I} {Φ Ψ : I → sProp 𝕄} : (bigSep s fun i => iprop(Φ i ∗ Ψ i)) ⊢ iprop(bigSep s Φ ∗ bigSep s Ψ) :=
  Entails.of_eq (bigSep_sep' s Φ Ψ)

theorem bigSep_two (Φ : Bool → sProp 𝕄) : bigSep Finset.univ Φ = iprop(Φ false ∗ Φ true) :=
  bigSep_univ_eq_bigSepL [false, true] (by decide) (by decide) Φ

theorem bigSep_cells (Φ : SemLoc sig → sProp 𝕄) : (bigSep Finset.univ fun k : Fin 8 × Bool => Φ (osem0 k))
    = iprop((bigSep Finset.univ fun s : Fin 8 => Φ (.dma (sendS s))) ∗ bigSep Finset.univ fun s : Fin 8 => Φ (.dma (recvS s))) := by
  rw [bigSep_univ_prod, ← bigSep_sep']
  exact bigSep_congr fun s _ => by rw [bigSep_two]; rfl

theorem ownSems_eq : (Pipeline.ownSems0 osem0 c : sProp 𝕄)
    = iprop((bigSep Finset.univ fun s : Fin 8 => semVal (sendCell c s) 0) ∗ bigSep Finset.univ fun s : Fin 8 => semVal (recvCell c s) 0) := by
  unfold Pipeline.ownSems0
  exact bigSep_cells (fun q => (semVal ((c : Thread nD τ), q) 0 : sProp 𝕄))

/-! ## From the launch to the region -/

/-- The tokens a slot's copy pays with. -/
def tokSt (s : Fin 8) : sProp 𝕄 :=
  if s = 0 then iprop(emp) else iprop(dutyTok ER (recvCell (fwd c s) s) 0 0 ∗ dutyTok ER (sendCell c s) 0 0)
/-- The credit a slot's receive wait takes. -/
def crSt (s : Fin 8) : sProp 𝕄 := if s = 0 then iprop(emp) else cred (tallyAt (recvCell c s) () N)
/-- A slot's state at launch: the right to open its two cells, the tokens, the credit. -/
def slot0 (s : Fin 8) : sProp 𝕄 :=
  iprop(openTok ER (sendCell c s) ∗ openTok ER (recvCell c s) ∗ tokSt (F := F) c s ∗ crSt (F := F) c s)
/-- With its two cells open. -/
def slot1 (s : Fin 8) : sProp 𝕄 :=
  iprop((reached ER (sendCell c s) 0 ∗ reached ER (recvCell c s) 0 ∗ tokSt (F := F) c s) ∗ waitSt (F := F) c s)

theorem open_slot (y : Dev nD → Dev nD → Vec F S512x256 .bf16) (K : GSem nD τ sig → ℕ) (s : Fin 8) :
    iprop(records y K ∗ (slot0 (F := F) c s ∗ semVal (sendCell c s) 0 ∗ semVal (recvCell c s) 0))
      ⊢ (|={Set.univ}=> slot1 (F := F) c s : sProp 𝕄) := by
  unfold slot0 slot1 waitSt crSt
  iintro ⟨#HR, ⟨HoS, HoV, Htk, Hcr⟩, HsS, HsV⟩
  imod (Rounds.cell_open ER (exRd y) (g := sendCell c s) (Set.mem_univ (K (sendCell c s)))) $$ [HoS HsS] with ⟨HatS, #HrS⟩
  · isplitr; · iapply (inv_at y K (send_mem c s)); iexact HR
    isplitl [HoS] <;> iassumption
  imod (Rounds.cell_open ER (exRd y) (g := recvCell c s) (Set.mem_univ (K (recvCell c s)))) $$ [HoV HsV] with ⟨HatV, #HrV⟩
  · isplitr; · iapply (inv_at y K (recv_mem c s)); iexact HR
    isplitl [HoV] <;> iassumption
  imodintro
  isplitl [Htk]
  · isplitr; · iexact HrS
    isplitr; · iexact HrV
    iexact Htk
  isplitl [HatS]; · iexact HatS
  isplitl [HatV]; · iexact HatV
  iexact Hcr

/-- What rides beside the buffers from the launch to the region. -/
def start : sProp 𝕄 :=
  iprop(∃ K, records (yv m) K ∗ barSt (F := F) c ∗ bigSep Finset.univ fun s => slot0 (F := F) c s)
/-- What the region's invariant starts from, beside the scratch buffers. -/
def X : sProp 𝕄 :=
  iprop(∃ K, records (yv m) K ∗ levAts L lv ∗ barSt (F := F) c ∗ bigSep Finset.univ fun s => slot1 (F := F) c s)

theorem hopen : iprop(start m c ∗ Pipeline.ownSems0 osem0 c ∗ levAts L lv) ⊢ (|={Set.univ}=> X m c : sProp 𝕄) := by
  rw [ownSems_eq]
  unfold start X
  iintro ⟨⟨%K, #HR, Hbar, Hsl⟩, ⟨HsS, HsV⟩, #Hlev⟩
  imod (show iprop(records (yv m) K ∗ bigSep Finset.univ fun s : Fin 8 => iprop(slot0 (F := F) c s ∗ semVal (sendCell c s) 0 ∗ semVal (recvCell c s) 0))
      ⊢ (|={Set.univ}=> bigSep Finset.univ fun s : Fin 8 => slot1 (F := F) c s : sProp 𝕄) from
    (bigSep_with_persistent (R := records (yv m) K) (Φ := fun s : Fin 8 => iprop(slot0 (F := F) c s ∗ semVal (sendCell c s) 0 ∗ semVal (recvCell c s) 0))
      fun s _ => open_slot c (yv m) K s).trans (bigSep_fupd _ _)) $$ [Hsl HsS HsV] with H
  · isplitr; · iexact HR
    iapply zip_sep
    isplitl [Hsl]; · iexact Hsl
    iapply zip_sep
    isplitl [HsS]; · iexact HsS
    iexact HsV
  imodintro
  iexists K
  isplitr; · iexact HR
  isplitr; · iexact Hlev
  isplitl [Hbar]; · iexact Hbar
  iexact H

theorem slot_in (s : Fin 8) : iprop((reached ER (sendCell c s) 0 ∗ reached ER (recvCell c s) 0 ∗ tokSt (F := F) c s) ∗ sAny (F := F) c s ∗ rAny (F := F) c s)
    ⊢ iprop(preSt (F := F) c s ∗ piece (F := F) c s) := by
  unfold tokSt preSt piece
  by_cases hs : s = 0
  · subst hs
    rw [if_pos rfl, if_pos rfl, if_pos rfl]
    iintro ⟨-, H1, H2⟩
    isplitl [H1 H2]
    · isplitl [H1] <;> iassumption
    iempintro
  · rw [if_neg hs, if_neg hs, if_neg hs]
    iintro ⟨⟨Hr, Hr', Ht, Ht'⟩, H1, H2⟩
    isplitl [H1 Hr Ht Ht']
    · isplitl [H1]; · iexact H1
      isplitl [Hr]; · iexact Hr
      isplitl [Ht] <;> iassumption
    isplitl [H2] <;> iassumption

theorem hin0 (T : sProp 𝕄) : iprop(X m c ∗ T ∗ Pipeline.scopedRest (Ix := Unit) (Name := ℕ) (U := UU) (Lvl := ℕ) (Val := Elt F) spec0 c) ⊢ Φ0 m c := by
  rw [scopedRest0_eq]
  unfold X Φ0
  iintro ⟨⟨%K, #HR, #Hlev, Hbar, Hsl⟩, -, H0, ⟨%f1, H1⟩, ⟨%f2, H2⟩⟩
  unfold slot1
  ihave Hsl' := unzip_sep $$ Hsl
  icases Hsl' with ⟨Htk, Hwt⟩
  ihave H1' := (s_slots (F := F) c f1) $$ H1
  ihave H2' := (r_slots (F := F) c f2) $$ H2
  ihave Hp := (show iprop((bigSep Finset.univ fun s : Fin 8 => iprop(reached ER (sendCell c s) 0 ∗ reached ER (recvCell c s) 0 ∗ tokSt (F := F) c s))
        ∗ (bigSep Finset.univ fun s : Fin 8 => sAny (F := F) c s) ∗ bigSep Finset.univ fun s : Fin 8 => rAny (F := F) c s)
      ⊢ iprop((bigSep Finset.univ fun s : Fin 8 => preSt (F := F) c s) ∗ bigSep Finset.univ fun s : Fin 8 => piece (F := F) c s) from by
    rw [← bigSep_sep', ← bigSep_sep', ← bigSep_sep']
    exact bigSep_mono fun s _ => slot_in c s) $$ [Htk H1' H2']
  · isplitl [Htk]; · iexact Htk
    isplitl [H1'] <;> iassumption
  icases Hp with ⟨Hpre, Hpc⟩
  isplitr; · iexists K; iexact HR
  isplitr; · iexact Hlev
  isplitl [Hbar]; · iexact Hbar
  isplitl [Hpre]; · iexact Hpre
  isplitl [Hpc]; · iexact Hpc
  isplitl [Hwt]; · iexact Hwt
  iexact H0

theorem hout0 : Φend m c ⊢ iprop(semVal (barCell c) 0 ∗ Pipeline.ownSems0 osem0 c
    ∗ Pipeline.scopedRest (Ix := Unit) (Name := ℕ) (U := UU) (Lvl := ℕ) (Val := Elt F) spec0 c) := by
  rw [scopedRest0_eq, ownSems_eq]
  unfold Φend owns
  iintro ⟨Hb, Hs, Hr, Hsa, Hra, ⟨%f, -, Hx⟩⟩
  isplitl [Hb]; · iexact Hb
  isplitl [Hs Hr]
  · isplitl [Hs] <;> iassumption
  isplitl [Hx]
  · iexists f
    iapply (Entails.of_eq (show (xM.view.loc (c : Thread nD τ) ↦[xM.view.set]{fullShare} f : sProp 𝕄)
      = ((c : Thread nD τ).loc cc0_scratch0 ↦{fullShare} f) from by rw [(Memref.isWhole_whole cc0_scratch0).set_eq_univ]))
    iexact Hx
  isplitl [Hsa]
  · iapply (s_join (F := F) c); iexact Hsa
  iapply (r_join (F := F) c); iexact Hra

end Cert.KernelIdeal.Exchange

end
-- ==== Proof.Record.lean ====
/-
  The kernel's region as a record of the launch: entry, wait order, exit.
-/
module

public import proofs.«01_k».proof.Proof.Segment

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- The region's proof data, device by device. -/
abbrev pdats (p : Fin 1) (c : Dev nD) : Dat τ (Elt F) Unit ℕ UU ℕ (Pipeline.pinD (pcfgs (F := F)) (adm m) c p) c :=
  match p with | ⟨0, _⟩ => dat m c

/-! ## The wait order -/

theorem lv_stage : ∀ (w : Fin 4) (s : Fin (spec0 w).nbuf), ((spec0 w).sem s).val < 13 := by decide

theorem owed_pos {c : Dev nD} {t : ℕ} {g : GSem nD τ sig} {u : Unit} (h : 0 < owedAt c t g u) : u ∈ L g ∧ 0 < lv g u := by
  unfold owedAt at h
  split_ifs at h
  · rcases O₀_pos h with ⟨s, rfl⟩ | ⟨p, rfl⟩
    · refine ⟨?_, ?_⟩
      · rw [L_tc]; exact Finset.mem_singleton_self _
      · rw [lv_recv]; decide
    · refine ⟨?_, ?_⟩
      · rw [L_tc]; exact Finset.mem_singleton_self _
      · rw [lv_bar]; decide
  · obtain ⟨s, -, rfl⟩ := recvOwed_pos h
    refine ⟨?_, ?_⟩
    · rw [L_tc]; exact Finset.mem_singleton_self _
    · rw [lv_recv]; decide

theorem mayWait_stage (c : Dev nD) (w : Fin 4) (s : Fin (spec0 w).nbuf) (t : ℕ) :
    (levAts L lv : sProp 𝕄) ⊢ MayWait (c : Thread nD τ) (.dma ((spec0 w).sem s)) () (owedAt c t) :=
  MayOwe.of_cut (L := L) (lev := lv) 0 (fun p hp => by rw [Finset.mem_singleton.mp hp, L_tc]; exact Finset.mem_singleton_self _)
    (fun g u hg => (owed_pos hg).1)
    (fun p hp => by
      rw [Finset.mem_singleton.mp hp]
      have := lv_stage w s
      dsimp only [lv]
      rw [if_neg (by omega)])
    (fun g u hg => (owed_pos hg).2)

/-! ## The record -/

variable (c : Dev nD)

theorem ownFacts : Pipeline.OwnSemFacts spec0 osem0 := by decide
theorem share_eq (w : Fin 4) : (dat m c).share w = fullShare := by
  unfold Dat.share; exact ite_self _

theorem arrays_in : (StableHlo.held (c : Thread nD τ) (Pipeline.ucRefs τ sig) (V1 m c) : sProp 𝕄)
    ⊢ iprop((dat m c).arrays ((dat m c).arrAt · 0) ∗ Pipeline.prefHeld pre0 c (fun _ => fullShare) (tab m c)
      ∗ Pipeline.unscopedRestP pre0 spec0 c (fun b => V1 m c b)) := by
  rw [← Pipeline.unscopedBufs_held c (V1 m c)]
  refine (Pipeline.PerCore.arrays_of_unscopedBufs (pcfgs (F := F)) (adm m) (pdats m) (p := 0) winFacts0 arr_whole0 c (share_eq m c) (fun b => V1 m c b)
    (fun w => A_eq m c w)).trans ?_
  rw [Pipeline.unscopedRest_split preFacts0]
  exact .rfl

/-- The thread state before the region, -/
def pre1 : sProp 𝕄 :=
  iprop(StableHlo.held (c : Thread nD τ) (Pipeline.ucRefs τ sig) (V1 m c) ∗ start m c ∗ ∃ W, owes (c : Thread nD τ) (O₀ c) W)
/-- and after it. -/
def post1 : sProp 𝕄 :=
  iprop(((dat m c).arrays ((dat m c).arrAt · (cfgD m c).N) ∗ Pipeline.unscopedRestP pre0 spec0 c (fun b => V1 m c b) ∗ semVal (barCell c) 0)
    ∗ ∃ W, owes (c : Thread nD τ) (0 : CellTallies nD τ sig Unit) W)

theorem hentry0 : iprop(pre1 m c ∗ Pipeline.ownSems0 osem0 c ∗ levAts L lv)
    ⊢ (|={Set.univ}=> iprop((dat m c).arrays ((dat m c).arrAt · 0) ∗ Pipeline.prefHeld pre0 c (fun _ => fullShare) (tab m c)
        ∗ (dat m c).owesAt () 0 ∗ X m c ∗ Pipeline.unscopedRestP pre0 spec0 c (fun b => V1 m c b)) : sProp 𝕄) := by
  unfold pre1
  iintro ⟨⟨Hh, Hst, ⟨%W, HO⟩⟩, Hos, #Hlev⟩
  imod (hopen m c) $$ [Hst Hos] with HX
  · isplitl [Hst]; · iexact Hst
    isplitl [Hos]; · iexact Hos
    iexact Hlev
  ihave Ha := (arrays_in m c) $$ Hh
  icases Ha with ⟨Harr, Hp, Hz⟩
  imodintro
  isplitl [Harr]; · iexact Harr
  isplitl [Hp]; · iexact Hp
  isplitl [HO]; · iapply (owed_intro m c 0 (O₀ c) rfl W); iexact HO
  isplitl [HX] <;> iassumption

theorem hexit0 : iprop((dat m c).arrays ((dat m c).arrAt · (cfgD m c).N) ∗ (dat m c).owesAt () (Fin.last (cfgD m c).N)
    ∗ semVal (barCell c) 0 ∗ Pipeline.unscopedRestP pre0 spec0 c (fun b => V1 m c b)) ⊢ (|={Set.univ}=> post1 m c : sProp 𝕄) := by
  unfold post1
  iintro ⟨Ha, HO, Hb, Hz⟩
  imodintro
  isplitr [HO]
  · isplitl [Ha]; · iexact Ha
    isplitl [Hz] <;> iassumption
  iapply (owed_elim m c (Fin.last (cfgD m c).N) 0 (by
    rw [Fin.val_last, show (cfgD m c).N = 8 from N_0]
    exact recvOwed_end c))
  iexact HO

theorem Φ_first : (dat m c).Φ 0 = Φ0 m c := by
  show Φat m c 0 = _
  unfold Φat; exact if_pos rfl
theorem Φ_last : (dat m c).Φ (Fin.last (cfgD m c).N) = Φend m c := by
  show Φat m c (Fin.last (cfgD m c).N).val = _
  rw [Fin.val_last, show (cfgD m c).N = 8 from N_0]
  unfold Φat; rw [if_neg (by decide), if_pos rfl]

set_option backward.isDefEq.respectTransparency.types false in
/-- The kernel's region. -/
def region : Pipeline.PerCore.RegionSeg (pcfgs (F := F)) (adm m) (pdats m) () defs₀ 𝒱₀ L lv 0 where
  win := winFacts0.to₀
  block_pos := block_pos0
  stage_whole := stage_whole0
  K := Fin 8 × Bool
  osem := osem0
  ho := ownFacts
  hbody c := (body_obligation m c).loose
  hwaits c := Pipeline.PerCore.cellsWaits_intro _ _ () 0 c fun w s t => mayWait_stage c w s t.val
  pre := pre1 m
  post := post1 m
  X := X m
  Y c := semVal (barCell c) 0
  Z c := Pipeline.unscopedRestP pre0 spec0 c (fun b => V1 m c b)
  hentry := hentry0 m
  hin c := by
    show _ ⊢ (dat m c).Φ 0
    rw [Φ_first]
    exact hin0 m c _
  hout c := by
    show (dat m c).Φ (Fin.last (cfgD m c).N) ⊢ _
    rw [Φ_last]
    exact hout0 m c
  hexit := hexit0 m

end Cert.KernelIdeal.Exchange

end
-- ==== Proof.Deal.lean ====
/-
  The launch: the cells funded, every duty's token and every credit handed to the device that uses it.
-/
module

public import proofs.«01_k».proof.Proof.Record

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Tokens -/

def barTok : Dev nD × Fin 8 ↪ GSem nD τ sig × ℕ × Fin 8 :=
  ⟨fun cd => (barCell cd.1, 0, cd.2), fun _ _ h =>
    Prod.ext (congrArg (fun t : GSem nD τ sig × ℕ × Fin 8 => t.1.1.1) h) (congrArg (fun t : GSem nD τ sig × ℕ × Fin 8 => t.2.2) h)⟩
def scTok : Dev nD × (Fin 8 × Bool) ↪ GSem nD τ sig × ℕ × Fin 8 :=
  ⟨fun ck => (scEmb ck, 0, 0), fun _ _ h => scEmb.injective (congrArg (fun t : GSem nD τ sig × ℕ × Fin 8 => t.1) h)⟩

theorem disjoint_toks : Disjoint (Finset.univ.map barTok) (Finset.univ.map scTok) := by
  rw [Finset.disjoint_left]
  rintro t h₁ h₂
  obtain ⟨cd, -, rfl⟩ := Finset.mem_map.mp h₁
  obtain ⟨ck, -, h⟩ := Finset.mem_map.mp h₂
  exact osem0_ne_bar ck.2 (congrArg (fun t : GSem nD τ sig × ℕ × Fin 8 => t.1.2) h)

def exToks : Finset (GSem nD τ sig × ℕ × Fin 8) := Finset.univ.map barTok ∪ Finset.univ.map scTok

/-- The places after `p`, device by device. -/
def afterEquiv (p : Dev nD) : Dev nD ≃ Fin 8 := ⟨fun c => gap c p, fun s => fwd p s, fun c => fwd_gap c p, fun s => gap_fwd p s⟩

theorem bar_toks : (bigSep (Finset.univ.map barTok) fun x => (dutyTok ER x.1 x.2.1 x.2.2 : sProp 𝕄))
    = bigSep Finset.univ fun c : Dev nD => bigSep Finset.univ fun p : Dev nD => dutyTok ER (barCell p) 0 (gap c p) := by
  rw [bigSep_map, bigSep_univ_prod, bigSep_univ_comm (fun c p : Dev nD => (dutyTok ER (barCell p) 0 (gap c p) : sProp 𝕄))]
  exact bigSep_congr fun p _ => bigSep_univ_equiv (afterEquiv p) fun d : Fin 8 => (dutyTok ER (barCell p) 0 d : sProp 𝕄)

theorem cells_split (Φ : GSem nD τ sig → sProp 𝕄) : (bigSep Finset.univ fun ck : Dev nD × (Fin 8 × Bool) => Φ (scEmb ck))
    = bigSep Finset.univ fun c : Dev nD => iprop((bigSep Finset.univ fun s : Fin 8 => Φ (sendCell c s)) ∗ bigSep Finset.univ fun s : Fin 8 => Φ (recvCell c s)) := by
  rw [bigSep_univ_prod]
  exact bigSep_congr fun c _ => bigSep_cells (fun q => Φ ((c : Thread nD τ), q))

theorem shift_recv (Φ : GSem nD τ sig → sProp 𝕄) : (bigSep Finset.univ fun c : Dev nD => bigSep Finset.univ fun s : Fin 8 => Φ (recvCell c s))
    = bigSep Finset.univ fun c : Dev nD => bigSep Finset.univ fun s : Fin 8 => Φ (recvCell (fwd c s) s) := by
  rw [bigSep_univ_comm (fun (c : Dev nD) (s : Fin 8) => Φ (recvCell c s)),
    bigSep_univ_comm (fun (c : Dev nD) (s : Fin 8) => Φ (recvCell (fwd c s) s))]
  exact bigSep_congr fun s _ => bigSep_univ_equiv (fwdEquiv s) fun c => Φ (recvCell c s)

theorem tok_slot (c : Dev nD) (s : Fin 8) : iprop(dutyTok ER (sendCell c s) 0 0 ∗ dutyTok ER (recvCell (fwd c s) s) 0 0) ⊢ tokSt (F := F) c s := by
  unfold tokSt
  by_cases hs : s = 0
  · rw [if_pos hs]; iintro -; iempintro
  · rw [if_neg hs]
    iintro ⟨H1, H2⟩
    isplitl [H2] <;> iassumption

theorem sc_toks : (bigSep (Finset.univ.map scTok) fun x => (dutyTok ER x.1 x.2.1 x.2.2 : sProp 𝕄))
    ⊢ bigSep Finset.univ fun c : Dev nD => bigSep Finset.univ fun s : Fin 8 => tokSt (F := F) c s := by
  rw [bigSep_map]
  refine (Entails.of_eq (cells_split fun g => (dutyTok ER g 0 0 : sProp 𝕄))).trans ?_
  rw [bigSep_sep', shift_recv (fun g => (dutyTok ER g 0 0 : sProp 𝕄)), ← bigSep_sep']
  refine bigSep_mono fun c _ => ?_
  rw [← bigSep_sep']
  exact bigSep_mono fun s _ => tok_slot c s

/-! ## Credits -/

theorem bar_eq (c p : Dev nD) : ((barCell c : GSem nD τ sig) = barCell p) = (c = p) :=
  propext ⟨fun h => congrArg (fun g : GSem nD τ sig => g.1.1) h, fun h => h ▸ rfl⟩
theorem recv_ne_bar (c p : Dev nD) (s : Fin 8) : (recvCell c s : GSem nD τ sig) ≠ barCell p := fun h => by
  have h1 := congrArg Prod.snd h
  injection h1

theorem recvOwed_bar (d c : Dev nD) (n : ℕ) : recvOwed d n (barCell c) () = 0 := by
  by_contra h
  obtain ⟨s, -, hs⟩ := recvOwed_pos (Nat.pos_of_ne_zero h)
  exact recv_ne_bar _ _ s hs.symm

theorem owed_bar (d c : Dev nD) : O₀ d (barCell c) () = 1 := by
  unfold O₀
  simp only [Pi.add_apply, Finsupp.add_apply, tallyAt_apply, recvOwed_bar, bar_eq, and_true]
  revert c; decide

theorem recv_eq (c d : Dev nD) (s t : Fin 8) : (recvCell c s : GSem nD τ sig) = recvCell d t → c = d ∧ s = t := fun h => by
  refine ⟨congrArg (fun g : GSem nD τ sig => g.1.1) h, ?_⟩
  have h1 := congrArg Prod.snd h
  injection h1 with h2
  have h3 := congrArg Fin.val h2
  exact Fin.ext (by dsimp only at h3; omega)

theorem recvOwed_recv (d c : Dev nD) (s : Fin 8) (hs : s ≠ 0) : recvOwed d 0 (recvCell c s) () = if d = bwd c s then N else 0 := by
  unfold recvOwed
  rw [Finset.sum_apply, Finsupp.finset_sum_apply, Finset.sum_eq_single s]
  · rw [tallyAt_apply]
    refine if_congr ⟨fun h => ?_, fun h => ?_⟩ rfl rfl
    · rw [(recv_eq _ _ _ _ h.1).1, bwd_fwd]
    · rw [h, fwd_bwd]; exact ⟨rfl, rfl⟩
  · intro t _ hts
    rw [tallyAt_apply]
    exact if_neg fun h => hts (recv_eq _ _ _ _ h.1).2.symm
  · intro h
    exact absurd (Finset.mem_filter.mpr ⟨Finset.mem_univ s, Nat.pos_of_ne_zero fun h0 => hs (Fin.ext h0)⟩) h

theorem owed_recv (d c : Dev nD) (s : Fin 8) (hs : s ≠ 0) : O₀ d (recvCell c s) () = if d = bwd c s then N else 0 := by
  unfold O₀
  simp only [Pi.add_apply, Finsupp.add_apply, tallyAt_apply, recv_ne_bar, false_and, if_false, Nat.add_zero]
  exact recvOwed_recv d c s hs

theorem launch_bar (c : Dev nD) :
    tallyOn (barCell c) (launchCredit (Pipeline.owing O₀) 0 (barCell c)) = (tallyAt (barCell c) () 8 : CellTallies nD τ sig Unit) := by
  unfold tallyAt; refine congrArg _ (Finsupp.ext fun u => ?_); cases u
  rw [Pipeline.launchCredit_owing, Finsupp.single_eq_same, Finset.sum_congr rfl fun d _ => owed_bar d c]
  rfl

theorem launch_recv (c : Dev nD) (s : Fin 8) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ (bwd c s) fun _ => N, if_pos (Finset.mem_univ _)]

def recvEmb : Fin 8 ↪ SemLoc sig := ⟨fun s => .dma (recvS s), by decide⟩

theorem recvEmb_ne : ∀ s, recvEmb s ≠ .reg barS := by decide
theorem drop (P : sProp 𝕄) : P ⊢ (iprop(emp) : sProp 𝕄) := by iintro -; iempintro

theorem creds (c : Dev nD) :
    (Pipeline.launchCred O₀ c : sProp 𝕄) ⊢ iprop(cred (tallyAt (barCell c) () 8) ∗ bigSep Finset.univ fun s : Fin 8 => crSt (F := F) c s) := by
  unfold Pipeline.launchCred
  rw [bigSep_univ_at _ (SemLoc.reg barS), launch_bar]
  refine sep_mono_right ?_
  refine (bigSep_subset (t := Finset.univ.map recvEmb) fun q hq => ?_).trans ?_
  · obtain ⟨s, -, rfl⟩ := Finset.mem_map.mp hq
    exact Finset.mem_erase.mpr ⟨recvEmb_ne s, Finset.mem_univ _⟩
  rw [bigSep_map]
  refine bigSep_mono fun s _ => ?_
  unfold crSt
  by_cases hs : s = 0
  · rw [if_pos hs]; exact drop _
  · rw [if_neg hs, ← launch_recv c s hs]; exact BI.Entails.refl _

/-! ## Everything dealt -/

theorem cellOf_inj' : Function.Injective (Pipeline.PerCore.cellOf (nD := nD) (τ := τ) (Pipeline.pinD (pcfgs (F := F)) (adm m))) :=
  Pipeline.PerCore.cellOf_injective _ (fun _ p => by fin_cases p; exact (by decide : Pipeline.SpecSemsDistinct spec0))
    (fun _ p p' h => absurd (Subsingleton.elim p p') h)

/-- The launch element: the staging cells' part, and the exchange's cells and tokens. -/
def u₀ : UU :=
  (initOf (Pipeline.PerCore.cells (Pipeline.pinD (pcfgs (F := F)) (adm m)) (cellOf_inj' m))
      (Pipeline.PerCore.launchToks (Pipeline.pinD (pcfgs (F := F)) (adm m)) (cellOf_inj' m)),
    launchOf barCells scCells exToks)

/-- Held by device `c₀` alone. -/
def heldBy (c₀ : Dev nD) (P : sProp 𝕄) (c : Dev nD) : sProp 𝕄 := if c = c₀ then P else iprop(emp)
theorem bigSep_heldBy (c₀ : Dev nD) (P : sProp 𝕄) : bigSep Finset.univ (heldBy c₀ P) = P := by
  rw [bigSep_univ_at _ c₀, bigSep_congr (s := Finset.univ.erase c₀) (Ψ := fun _ => (BI.emp : sProp 𝕄))
      fun c hc => by unfold heldBy; rw [if_neg (Finset.ne_of_mem_erase hc)]; rfl, BI.bigSep_emp_const]
  unfold heldBy; rw [if_pos rfl]
  exact BI.equiv_iff.mp sep_emp

/-- The exchange's part rests with device 0 until it is dealt. -/
def G : Dev nD → sProp 𝕄 := heldBy 0 (BI.own (ER (launchOf barCells scCells exToks)))

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's buffers, credits and dues. -/
def goods (c : Dev nD) : sProp 𝕄 :=
  iprop(StableHlo.held (c : Thread nD τ) (Pipeline.ucRefs τ sig) (V0 m c) ∗ cred (tallyAt (barCell c) () 8)
    ∗ (bigSep Finset.univ fun s : Fin 8 => crSt (F := F) c s) ∗ owes (c : Thread nD τ) (O₀ c) ∅)
/-- Its part of the exchange. -/
def share (c : Dev nD) : sProp 𝕄 :=
  iprop(atPos ER (barCell c) 0 ∅ 0
    ∗ ((bigSep Finset.univ fun s : Fin 8 => openTok ER (sendCell c s)) ∗ bigSep Finset.univ fun s : Fin 8 => openTok ER (recvCell c s))
    ∗ (bigSep Finset.univ fun p : Dev nD => dutyTok ER (barCell p) 0 (gap c p))
    ∗ bigSep Finset.univ fun s : Fin 8 => tokSt (F := F) c s)

/-- What rides beside the buffers. -/
def ride : Fin 2 → Dev nD → sProp 𝕄 := fun _ c => iprop(start m c ∗ ∃ W, owes (c : Thread nD τ) (O₀ c) W)
def T₀ (c : Dev nD) : sProp 𝕄 := iprop(StableHlo.held (c : Thread nD τ) (Pipeline.ucRefs τ sig) (V0 m c) ∗ ride m 0 c)

theorem T₀_intro (κ : GSem nD τ sig → ℕ) (c : Dev nD) : iprop(records (yv m) κ ∗ (share (F := F) c ∗ goods m c)) ⊢ T₀ m c := by
  unfold goods share T₀ ride start barSt
  iintro ⟨#HR, ⟨Hat, ⟨HoS, HoV⟩, Htb, Hts⟩, Hh, Hcb, Hcr, HO⟩
  isplitl [Hh]; · iexact Hh
  isplitr [HO]
  · iexists κ
    isplitr; · iexact HR
    isplitl [Hat Hcb Htb]
    · isplitl [Hat]; · iexact Hat
      isplitl [Hcb] <;> iassumption
    unfold slot0
    iapply zip_sep
    isplitl [HoS]; · iexact HoS
    iapply zip_sep
    isplitl [HoV]; · iexact HoV
    iapply zip_sep
    isplitl [Hts] <;> iassumption
  · iexists ∅; iexact HO

variable (ρ : Dev nD → PrngReg)

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c)
      ⊢ (iprop(goods m c ∗ (semVal (barCell c) 0 ∗ G (F := F) c)) : sProp 𝕄) := by
    rw [show unscopedBufs c (fun b => m ((c.tc : Thread nD τ).loc b)) = StableHlo.held (c : Thread nD τ) (Pipeline.ucRefs τ sig) (V0 m c) from
      Pipeline.unscopedBufs_held c (V0 m c), sems_eq]
    unfold goods
    iintro ⟨Hh, Hus, HO, Hcr, -, HG⟩
    ihave Hc := (creds (F := F) c) $$ Hcr
    icases Hc with ⟨H1, HN⟩
    isplitr [Hus HG]
    · isplitl [Hh]; · iexact Hh
      isplitl [H1]; · iexact H1
      isplitl [HN] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => iprop((bigSep Finset.univ fun s : Fin 8 => openTok ER (sendCell c s)) ∗ bigSep Finset.univ fun s : Fin 8 => openTok ER (recvCell c s))) :=
    Entails.of_eq ((bigSep_map (s := Finset.univ) scEmb (Φ := fun g : GSem nD τ sig => (openTok ER g : sProp 𝕄))).trans
      (cells_split fun g => (openTok ER g : sProp 𝕄)))
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
      ⊢ (bigSep Finset.univ fun c : Dev nD => iprop(goods m c ∗ (semVal (barCell c) 0 ∗ G (F := F) c)) : sProp 𝕄) from bigSep_mono fun c _ => hcore c) $$ H
  ihave H2 := unzip_sep $$ H'; icases H2 with ⟨HB, H3⟩
  ihave H4 := unzip_sep $$ H3; icases H4 with ⟨Hv, HG⟩
  ihave Hu := (show bigSep Finset.univ (G (F := F)) ⊢ BI.own (ER (launchOf barCells scCells exToks)) from
    Entails.of_eq (bigSep_heldBy (F := F) 0 (BI.own (ER (launchOf barCells scCells exToks))))) $$ HG
  imod (Rounds.fund_launch ER (exRd (yv m)) disjoint_cells (fun g _ h => h) exToks) $$ [Hv Hu] with ⟨%κ, -, #Hinv, #Hr, Hat, Hopen, Htok⟩
  · isplitl [Hv]
    · iapply hv $$ Hv
    · iexact Hu
  imodintro
  iapply (bigSep_with_persistent (R := records (yv m) κ) (Φ := fun c => iprop(share (F := F) c ∗ goods m c)) fun c _ => T₀_intro m κ c)
  isplitr
  · unfold records
    isplitr; · iexact Hinv
    iexact Hr
  iapply zip_sep
  isplitr [HB]
  · unfold share
    iapply zip_sep; isplitl [Hat]; · iapply hat $$ Hat
    iapply zip_sep; isplitl [Hopen]; · iapply hopen $$ Hopen
    ihave Ht := (show (bigSep exToks fun x => (dutyTok ER x.1 x.2.1 x.2.2 : sProp 𝕄))
        ⊢ iprop((bigSep (Finset.univ.map barTok) fun x => (dutyTok ER x.1 x.2.1 x.2.2 : sProp 𝕄)) ∗ bigSep (Finset.univ.map scTok) fun x => (dutyTok ER x.1 x.2.1 x.2.2 : sProp 𝕄)) from
      Entails.of_eq (bigSep_union disjoint_toks)) $$ Htok
    icases Ht with ⟨Htb, Hts⟩
    iapply zip_sep; isplitl [Htb]
    · iapply (Entails.of_eq (bar_toks (F := F))) $$ Htb
    iapply (sc_toks (F := F)) $$ Hts
  · iexact HB

end Cert.KernelIdeal.Exchange

end
-- ==== Proof.Run.lean ====
/-
  The run of the kernel's program on the eight devices.
-/
module

public import proofs.«01_k».proof.Proof.Deal

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The contents at the end -/

section End

variable (c : Dev nD)

theorem emb_3 (t : Fin (cfgD m c).N) (j : S4096x256.Idx) : (((cfgD m c).win 3).rect t).emb j = j := by
  refine funext fun a => Fin.ext ?_
  refine (((cfgD m c).win 3).rect_emb_val_of_index_zero t a ?_ j)
  revert a
  exact Fin.forall_fin_two.mpr ⟨rfl, rfl⟩

theorem arr_3 : (dat m c).arrAt 3 (cfgD m c).N = outv m c := by
  refine (dat m c).arrAt_eq_of_cover 3 (outv m c) (fun t ht => ?_) (fun i => ?_)
  · funext j
    exact congrArg (outv m c) (emb_3 m c t j).symm
  · refine ⟨t0_7, (flush_3 m c t0_7).mpr rfl, ?_⟩
    have h := View.emb_mem_set (((cfgD m c).win 3).blk t0_7).view i
    rwa [show (((cfgD m c).win 3).blk t0_7).view.emb i = i from emb_3 m c t0_7 i] at h

theorem arr_0 : (dat m c).arrAt 0 (cfgD m c).N = m ((c : Thread nD τ).loc main_arg0) :=
  ((dat m c).arrAt_in 0 rfl _).trans (V1_of m c main_arg0 (by decide))
theorem arr_1 : (dat m c).arrAt 1 (cfgD m c).N = m ((c : Thread nD τ).loc main_arg1) :=
  ((dat m c).arrAt_in 1 rfl _).trans (V1_of m c main_arg1 (by decide))

/-- What a device holds when it has finished. -/
def Tₙ : sProp 𝕄 :=
  iprop((dat m c).arrays ((dat m c).arrAt · (cfgD m c).N) ∗ Pipeline.unscopedRestP pre0 spec0 c (fun b => V1 m c b) ∗ semVal (barCell c) 0)

/-- What its memory says then. -/
def ends (s : MemSt nD τ sig (Elt F)) : Prop :=
  (s.mem ((c.tc : Thread nD τ).loc main_v10) = outv m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.sem (barCell c) = 0

theorem hfin0 (s' : Phys nD τ sig (Elt F)) : iprop(Tₙ m c ∗ SI s') ⊢ (|={Set.univ}=> iprop(⌜ends m c s'.mem⌝ ∗ SI s') : sProp 𝕄) := by
  unfold Tₙ
  rw [unscopedRestP0_eq]
  iintro ⟨⟨Ha, ⟨H2, H3, -⟩, Hb⟩, HSI⟩
  icombine HSI H2 gives %h2
  icombine HSI H3 gives %h3
  icombine HSI Hb gives %hb
  ihave Hr := (Pipeline.PerCore.arrays_read (pcfgs (F := F)) (adm m) (pdats m) (p := 0) arr_whole0 c (share_eq m c)
    ((dat m c).arrAt · (cfgD m c).N) s') $$ [Ha HSI]
  · isplitl [Ha] <;> iassumption
  icases Hr with ⟨%ha, HSI⟩
  imodintro
  isplitr
  · ipureintro
    refine ⟨⟨(ha 3).trans (arr_3 m c), (ha 0).trans (arr_0 m c), (ha 1).trans (arr_1 m c), ?_, ?_⟩, by simpa using hb⟩
    · exact (Buf.eq_of_forall_mem_univ h2).trans (V1_of m c main_arg2 (by decide))
    · exact (Buf.eq_of_forall_mem_univ h3).trans (V1_of m c main_arg3 (by decide))
  iexact HSI

end End

/-- The program as its two segments. -/
abbrev segs (c : Dev nD) : List (Pipeline.PerCore.Seg (pcfgs (F := F)) (adm m) (pdats m) () defs₀ 𝒱₀ L lv) :=
  [.host (seg0 m 𝒱₀ L lv (ride m) c), .region (region m)]

theorem unscoped_eq : ∀ sm : SemLoc sig, sm.isScoped .tc = false → sm = .reg barS := by decide

variable (ρ : Dev nD → PrngReg)

set_option backward.isDefEq.respectTransparency.types false in
/-- Every run ends with each device's result at `outv`, its arguments as they were and every semaphore at zero. -/
theorem run_main : θ_run defs (onTc (τ := τ) (main (F := F))) ⟨m, fun _ => 0, ρ⟩ (fun r =>
    (∀ c : Dev nD, r.2.mem ((c.tc : Thread nD τ).loc main_v10) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  Pipeline.PerCore.θ_run_regions_kit_sems (pcfgs (F := F)) (adm m) (pdats m) () (cellOf_inj' m) EP defs₀ 𝒱₀ L lv m ρ main (segs m)
    (fun c Q => by
      rewrite [main_chain c, Pipeline.PerCore.Seg.run_eq_chain,
        show (segs m c).map Pipeline.PerCore.Seg.prog = [
          StableHlo.seq (hostOps0 c),
          Prog.lift (.customCall (Pipeline.entry 0) ()) ] from rfl]
      dsimp (config := { failIfUnchanged := false }) only
      exact .rfl)
    (fun c => by
      simp only [segs, Pipeline.PerCore.Seg.pipes_host, Pipeline.PerCore.Seg.pipes_region, Pipeline.PerCore.Seg.pipes_nil]; decide)
    (O₀ := O₀) (hL := L_of_ne) (G := G (F := F)) (u₀ := u₀ m)
    (hu₀ := by
      unfold u₀ G
      iintro Hu
      ihave H := (ownU_pair _ _) $$ Hu
      icases H with ⟨HP, HX⟩
      imodintro
      isplitl [HP]; · iexact HP
      rw [bigSep_heldBy]; iexact HX)
    (T₀ := T₀ m) (Tₙ := Tₙ m)
    (hch := fun c => ⟨.rfl, .rfl, .rfl⟩)
    (hinit := init m ρ)
    (QY := ends m)
    (hfin := hfin0 m)
    (hQ := fun s h hs => ⟨fun c => (h c).1,
      sem_eq_zero hs fun c sm hsm => by
        obtain rfl := unscoped_eq sm hsm
        exact (h c).2⟩)

end Cert.KernelIdeal.Exchange

end
-- ==== Proof.Plain.lean ====
/-
  The reference's result as one function of its arguments: the body's one store covers the block, and at the one
  grid point every window's block is its whole array.
-/
module

public import proofs.«01_k».proof.Proof.Gen.ReferenceIdeal.Value
public import Idealize.ShloMosaic.Lib.Pipeline.ValueKit
public import Idealize.ShloMosaic.Lib.MatmulPlain

@[expose] public section

set_option maxRecDepth 16384

noncomputable section

namespace Cert.ReferenceIdeal.Plain

open Cert.ReferenceIdeal Cert.ReferenceIdeal.Gen Cert.ReferenceIdeal.Value
open Idealize.ShloMosaic Idealize.ShloMosaic.TcCoe Idealize.SL.Sem
open Idealize.ShloMosaic.Pipeline (Dat)

variable {F : FTy → Type} [FloatOps F]

/-- The one place of a one-element array. -/
def one1 : S1.Idx := fun a => match a with | ⟨0, _⟩ => ⟨0, Nat.one_pos⟩

/-- The result: the product of the two matrices, scaled, cut at zero. -/
def relu (x : Vec F S4096x4096 .fp8e5m2) (w : Vec F S4096x2048 .fp8e5m2) (a b : Vec F S1 .f32) : Vec F S4096x2048 .f32 :=
  k0_pay1 x w (a one1) (b one1)

theorem zeros2 : (![0, 0] : Fin 2 → Nat) = fun _ => 0 := funext fun a => by fin_cases a <;> rfl

theorem stored (c : Dev nD) (a0 : Memref sig .tc .vmem S4096x4096 .fp8e5m2) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x0 : Vec F S4096x4096 .fp8e5m2) (x1 : Vec F S4096x2048 .fp8e5m2) (x2 x3 : Vec F S1 .f32) :
    out0_A_4 c a0 h0 a1 h1 a2 h2 a3 h3 a4 h4 x0 x1 x2 x3 = relu x0 x1 x2 x3 := by
  unfold out0_A_4
  rw [View.read_writes_junk_eq_canon]
  show View.canon ([⟨Rect.unit ![0, 0] S4096x2048.size inb_S4096x2048_S4096x2048_0_0,
      k0_pay1
        (View.readAt (Elt F) a0.view (Rect.unit (s := S4096x4096) ![0, 0] S4096x4096.size inb_S4096x4096_S4096x4096_0_0).toLoadRect (h0.unread x0))
        (View.readAt (Elt F) a1.view (Rect.unit (s := S4096x2048) ![0, 0] S4096x2048.size inb_S4096x2048_S4096x2048_0_0).toLoadRect (h1.unread x1))
        (View.readAt (Elt F) a2.view (Rect.unit (s := S1) ![0] S1.size inb_S1_S1_0).toLoadRect (h2.unread x2) _)
        (View.readAt (Elt F) a3.view (Rect.unit (s := S1) ![0] S1.size inb_S1_S1_0).toLoadRect (h3.unread x3) _)⟩] :
      List (View.Piece (Elt F) S4096x2048 .f32)) = _
  rw [View.canon_unit_zero zeros2, View.readAt_eq_ld, View.readAt_eq_ld, View.readAt_eq_ld, View.readAt_eq_ld, h0.read_unread,
    h1.read_unread, h2.read_unread, h3.read_unread, View.ld_unit_zero (S := S4096x4096) zeros2, View.ld_unit_zero (S := S4096x2048) zeros2]
  exact congrArg₂ (k0_pay1 x0 x1) (congrArg x2 (funext fun a => by match a with | ⟨0, _⟩ => exact @Subsingleton.elim (Fin 1) _ _ _))
    (congrArg x3 (funext fun a => by match a with | ⟨0, _⟩ => exact @Subsingleton.elim (Fin 1) _ _ _))

variable (m : (ℓ : Loc nD τ sig) → Buf (Elt F) ℓ) (ρ : Dev nD → PrngReg)

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 1) = 0 := (by decide +kernel : ∀ t : Fin grid0.N, _)
theorem at3 : ∀ t : Fin cfg0.N, win0_3.index t (0 : Fin 1) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)

theorem whole0 (t : Fin cfg0.N) (j : S4096x4096.Idx) : ((cfg0.win 0).blk t).view.emb j = j := by
  obtain ⟨e0, e1⟩ := at0 t
  funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega
theorem whole1 (t : Fin cfg0.N) (j : S4096x2048.Idx) : ((cfg0.win 1).blk t).view.emb j = j := by
  obtain ⟨e0, e1⟩ := at1 t
  funext a; apply Fin.ext
  match a with
  | ⟨0, _⟩ => show win0_1.index t (0 : Fin 2) * 4096 + 1 * (j 0).val = (j 0).val; omega
  | ⟨1, _⟩ => show win0_1.index t (1 : Fin 2) * 2048 + 1 * (j 1).val = (j 1).val; omega
theorem whole2 (t : Fin cfg0.N) (j : S1.Idx) : ((cfg0.win 2).blk t).view.emb j = j := by
  have e0 := at2 t
  funext a; apply Fin.ext
  match a with
  | ⟨0, _⟩ => show win0_2.index t (0 : Fin 1) * 1 + 1 * (j 0).val = (j 0).val; omega
theorem whole3 (t : Fin cfg0.N) (j : S1.Idx) : ((cfg0.win 3).blk t).view.emb j = j := by
  have e0 := at3 t
  funext a; apply Fin.ext
  match a with
  | ⟨0, _⟩ => show win0_3.index t (0 : Fin 1) * 1 + 1 * (j 0).val = (j 0).val; omega
theorem whole4 (t : Fin cfg0.N) (j : S4096x2048.Idx) : ((cfg0.win 4).blk t).view.emb j = j := by
  obtain ⟨e0, e1⟩ := at4 t
  funext a; apply Fin.ext
  match a with
  | ⟨0, _⟩ => show win0_4.index t (0 : Fin 2) * 4096 + 1 * (j 0).val = (j 0).val; omega
  | ⟨1, _⟩ => show win0_4.index t (1 : Fin 2) * 2048 + 1 * (j 1).val = (j 1).val; omega

theorem in0 (c : Dev nD) (t : Fin cfg0.N) : iblk m c 0 t = V m c main_arg0 := by
  funext j; show V m c main_arg0 (((cfg0.win 0).blk t).view.emb j) = V m c main_arg0 j; rw [whole0]
theorem in1 (c : Dev nD) (t : Fin cfg0.N) : iblk m c 1 t = V m c main_arg1 := by
  funext j; show V m c main_arg1 (((cfg0.win 1).blk t).view.emb j) = V m c main_arg1 j; rw [whole1]
theorem in2 (c : Dev nD) (t : Fin cfg0.N) : iblk m c 2 t = V m c main_arg2 := by
  funext j; show V m c main_arg2 (((cfg0.win 2).blk t).view.emb j) = V m c main_arg2 j; rw [whole2]
theorem in3 (c : Dev nD) (t : Fin cfg0.N) : iblk m c 3 t = V m c main_arg3 := by
  funext j; show V m c main_arg3 (((cfg0.win 3).blk t).view.emb j) = V m c main_arg3 j; rw [whole3]

theorem cut4 (t : Fin cfg0.N) (X : Vec F S4096x2048 .f32) :
    (cfg0.win 4).cut (grid0.coords t) X = ((cfg0.win 4).blk t).view.read (Elt F) X := by
  funext j
  show X j = X (((cfg0.win 4).blk t).view.emb j)
  rw [whole4]

/-- What the point writes back. -/
theorem written (c : Dev nD) (t : Fin cfg0.N) :
    (dats m 0 c).flushed 4 t = ((cfg0.win 4).blk t).view.read (Elt F)
      (relu (V m c main_arg0) (V m c main_arg1) (V m c main_arg2) (V m c main_arg3)) := by
  rw [flushed4_A, stored, in0, in1, in2, in3]
  exact cut4 t _

theorem everywhere (i : S4096x2048.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [whole4] at h⟩

theorem result (c : Dev nD) : (dats m 0 c).arrAt 4 cfg0.N
    = relu (m ((c : Thread nD τ).loc main_arg0)) (m ((c : Thread nD τ).loc main_arg1))
        (m ((c : Thread nD τ).loc main_arg2)) (m ((c : Thread nD τ).loc main_arg3)) :=
  ((dats m 0 c).arrAt_eq_of_cover 4 _ (fun t _ => written m c t) everywhere).trans
    (by rw [V_main_arg0, V_main_arg1, V_main_arg2, V_main_arg3])

/-- The reference's run, its result named. -/
theorem run : θ_run defs (onTc (τ := τ) (main (F := F))) ⟨m, fun _ => 0, ρ⟩ fun r => ∀ c : Dev nD,
      r.2.mem ((c : Thread nD τ).loc main_v0)
        = relu (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result m c), (h c).2⟩) (run_blocks m ρ)

/-- The result at an index, over the extended reals. -/
theorem relu_apply (x : Vec Ideal S4096x4096 .fp8e5m2) (w : Vec Ideal S4096x2048 .fp8e5m2) (a b : Vec Ideal S1 .f32)
    (r : Fin 4096) (q : Fin 2048) :
    relu x w a b (ValueIdx.ix2 r q) = max ((0 + ∑ k : Fin 4096, x (ValueIdx.ix2 r k) * w (ValueIdx.ix2 k q)) * (a one1 * b one1)) 0 := by
  have h := Ideal.matmul_plain_apply (φ₁ := .fp8e5m2) (φ₂ := .fp8e5m2) none x w (constant S4096x2048 .f32 0x00000000#32) r q
  have hz : (constant S4096x2048 .f32 0x00000000#32 : FVec Ideal S4096x2048 .f32) (ValueIdx.ix2 r q) = (0 : EReal) := Ideal.ofBits_zero_f32
  rw [hz] at h
  have hz' : (Scalar.ofBits .f32 0x00000000#32 : Ideal .f32) = (0 : EReal) := Ideal.ofBits_zero_f32
  show max (_ * (a one1 * b one1)) (Scalar.ofBits .f32 0x00000000#32 : Ideal .f32) = _
  rw [hz', ← h]
  rfl

end Cert.ReferenceIdeal.Plain

end
-- ==== Proof.Value.lean ====
/-
  Over the extended reals each device's result is its columns of the scaled product cut at zero: the change to the
  short format and back, which the exchange makes, changes nothing there.
-/
module

public import proofs.«01_k».proof.Proof.Run
public import proofs.«01_k».proof.Proof.Plain
public import Idealize.ShloMosaic.Lib.Layout

@[expose] public section

set_option maxRecDepth 16384

noncomputable section

namespace Cert.KernelIdeal.Exchange

open Cert.KernelIdeal Cert.KernelIdeal.Gen
open Idealize.ShloMosaic
open Idealize.ShloMosaic.TcCoe
open Idealize.SL.Sem

theorem one_place (i j : S1.Idx) : i = j := by
  funext a
  match a with
  | ⟨0, _⟩ => exact @Subsingleton.elim (Fin 1) _ _ _

/-- The scale a device computes on the host. -/
theorem scl_at {F : FTy → Type} [FloatOps F] (m : (ℓ : Loc nD τ sig) → Buf (Elt F) ℓ) (c : Dev nD) (a b : Vec F S1 .f32)
    (ha : m ((c.tc : Thread nD τ).loc main_arg2) = a) (hb : m ((c.tc : Thread nD τ).loc main_arg3) = b) :
    scl m c one11 = FloatOps.mulf (a Cert.ReferenceIdeal.Plain.one1) (b Cert.ReferenceIdeal.Plain.one1) := by
  subst ha hb
  unfold scl V1
  after_reads_simp
  exact congrArg₂ FloatOps.mulf (congrArg (m ((c.tc : Thread nD τ).loc main_arg2)) (one_place _ _)) (congrArg (m ((c.tc : Thread nD τ).loc main_arg3)) (one_place _ _))

variable (m : (ℓ : Loc nD τ sig) → Buf (Elt Ideal) ℓ)

/-- One block's entry. -/
theorem pay2_apply (x : Vec Ideal S512x4096 .fp8e5m2) (w : Vec Ideal S4096x256 .fp8e5m2) (s : Elt Ideal .f32)
    (r : Fin 512) (q : Fin 256) :
    k0_pay2 x w s (ValueIdx.ix2 r q) = max ((0 + ∑ k : Fin 4096, x (ValueIdx.ix2 r k) * w (ValueIdx.ix2 k q)) * (s : EReal)) 0 := by
  have h := Ideal.matmul_plain_apply (φ₁ := .fp8e5m2) (φ₂ := .fp8e5m2) none x w (constant S512x256 .f32 0x00000000#32) r q
  have hz : (constant S512x256 .f32 0x00000000#32 : FVec Ideal S512x256 .f32) (ValueIdx.ix2 r q) = (0 : EReal) := Ideal.ofBits_zero_f32
  rw [hz] at h
  have hz' : (Scalar.ofBits .f32 0x00000000#32 : Ideal .f32) = (0 : EReal) := Ideal.ofBits_zero_f32
  unfold k0_pay2
  rw [shapeCast_self]
  show max (_ * (s : EReal)) (Scalar.ofBits .f32 0x00000000#32 : Ideal .f32) = _
  rw [hz', ← h]
  rfl

/-- What a device stores of the block from its `s`-th neighbour back is that neighbour's block. -/
theorem resv_eq (c : Dev nD) (s : Fin 8) :
    resv m c s = k0_pay2 (xin m (bwd c s)) (wcol m (bwd c s) c) (scl m (bwd c s) one11) := by
  unfold resv
  by_cases h : s = 0
  · rw [if_pos h, h]
    have hb : bwd c 0 = c := by revert c; decide
    rw [hb]
  · rw [if_neg h]
    unfold yv k0_pay3
    dsimp only
    rw [shapeCast_self]
    rfl

theorem inBlk_pair (j : S4096x256.Idx) :
    inBlk j = ValueIdx.ix2 (⟨(j 0).val % 512, Nat.mod_lt _ (by decide)⟩ : Fin 512) (⟨(j 1).val, (j 1).isLt⟩ : Fin 256) := by
  funext a
  match a with
  | ⟨0, _⟩ => rfl
  | ⟨1, _⟩ => rfl

/-- Where the columns of device `c` stand in the whole result. -/
theorem col_place (h : Layout.Tiles S4096x256 S4096x2048 1 8) (c : Fin 8) (j : S4096x256.Idx) :
    h.idx c j = ValueIdx.ix2 (⟨(j 0).val, (j 0).isLt⟩ : Fin 4096)
      (⟨c.val * 256 + (j 1).val, by have : (j 1).val < 256 := (j 1).isLt; omega⟩ : Fin 2048) := by
  funext a
  match a with
  | ⟨0, _⟩ => rfl
  | ⟨1, _⟩ => rfl

/-- Where a row of the device that holds it stands in the whole left matrix. -/
theorem row_place (h : Layout.Tiles S512x4096 Cert.ReferenceIdeal.S4096x4096 0 8) (j : S4096x256.Idx) (k : Fin 4096) :
    h.idx (rowDev j) (ValueIdx.ix2 (⟨(j 0).val % 512, Nat.mod_lt _ (by decide)⟩ : Fin 512) k)
      = ValueIdx.ix2 (⟨(j 0).val, (j 0).isLt⟩ : Fin 4096) k := by
  funext a
  match a with
  | ⟨0, _⟩ =>
    apply Fin.ext
    show (j 0).val / 512 * 512 + (j 0).val % 512 = (j 0).val
    omega
  | ⟨1, _⟩ => rfl

/-- Where an entry of the column block of device `c` stands in the whole right matrix. -/
theorem entry_place (c : Dev nD) (j : S4096x256.Idx) (k : Fin 4096) :
    colIx c (ValueIdx.ix2 k (⟨(j 1).val, (j 1).isLt⟩ : Fin 256))
      = ValueIdx.ix2 k (⟨c.val * 256 + (j 1).val, by have h : (j 1).val < 256 := (j 1).isLt; have : c.val < 8 := c.isLt; omega⟩ : Fin 2048) := by
  funext a
  match a with
  | ⟨0, _⟩ => rfl
  | ⟨1, _⟩ => rfl

/-- Each device ends with its columns of the reference's result. -/
theorem outv_eq (X : Vec Ideal Cert.ReferenceIdeal.S4096x4096 .fp8e5m2) (W : Vec Ideal S4096x2048 .fp8e5m2) (a b : Vec Ideal S1 .f32)
    (hx : ∀ c : Dev nD, m ((c.tc : Thread nD τ).loc main_arg0) = Layout.block ⟨2, ![512, 4096]⟩ ⟨2, ![4096, 4096]⟩ 0 8 c X)
    (hw : ∀ c : Dev nD, m ((c.tc : Thread nD τ).loc main_arg1) = W)
    (ha : ∀ c : Dev nD, m ((c.tc : Thread nD τ).loc main_arg2) = a)
    (hb : ∀ c : Dev nD, m ((c.tc : Thread nD τ).loc main_arg3) = b) (c : Dev nD) :
    outv m c = Layout.block ⟨2, ![4096, 256]⟩ ⟨2, ![4096, 2048]⟩ 1 8 c (Cert.ReferenceIdeal.Plain.relu X W a b) := by
  funext j
  rw [Layout.block_apply, col_place, Cert.ReferenceIdeal.Plain.relu_apply]
  unfold outv
  rw [resv_eq, bwd_gap, inBlk_pair, pay2_apply, scl_at m (rowDev j) a b (ha _) (hb _)]
  have hX : xin m (rowDev j) = Layout.block ⟨2, ![512, 4096]⟩ ⟨2, ![4096, 4096]⟩ 0 8 (rowDev j) X :=
    ((V1_of m _ main_arg0 (by decide)).trans rfl).trans (hx _)
  have hW : wcol m (rowDev j) c = fun i => W (colIx c i) := by
    funext i
    exact congrFun (((V1_of m _ main_arg1 (by decide)).trans rfl).trans (hw (rowDev j))) (colIx c i)
  rw [hX, hW]
  refine congrArg (fun z : EReal => max ((0 + z) * (a Cert.ReferenceIdeal.Plain.one1 * b Cert.ReferenceIdeal.Plain.one1)) 0) ?_
  refine Finset.sum_congr rfl fun k _ => ?_
  rw [Layout.block_apply, row_place]
  exact congrArg (fun i => X _ * W i) (entry_place c j k)

end Cert.KernelIdeal.Exchange

end
-- ==== Proof.lean ====
/-
  The five claims: the three programs run, leave their arguments and end with every counter at zero; no rewrite was
  made; and each device's result is its block of columns of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value
public import Idealize.ShloMosaic.Adequacy
public import Idealize.ShloMosaic.Init

@[expose] public section

noncomputable section

namespace Cert.Proof

open Idealize.ShloMosaic Idealize.SL.Sem

/-- The kernel's frame at machine floats, stated over the second print of the same text. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frameBits : FrameBits := fun m ρ _ =>
  (θ_run Cert.KernelIdeal.defs _ _).mono (fun _ h => ⟨fun c => (h.1 c).2, h.2⟩)
    (Cert.KernelIdeal.Exchange.run_main (F := Bits) m ρ)

/-- The two prints are one text. -/
theorem one_text : FrameBits = Cert.quiescent_Kernel := by sl_kernel_rfl

theorem frame_kernel : Cert.quiescent_Kernel := one_text.mp frameBits

theorem frame_ideal : Cert.quiescent_KernelIdeal := fun m ρ _ =>
  (θ_run Cert.KernelIdeal.defs _ _).mono (fun _ h => ⟨fun c => (h.1 c).2, h.2⟩)
    (Cert.KernelIdeal.Exchange.run_main (F := Ideal) m ρ)

theorem frame_reference : Cert.quiescent_ReferenceIdeal := fun m ρ _ => Cert.ReferenceIdeal.Gen.frame m ρ

theorem algebraic : Cert.algebraic_KernelIdeal_ReferenceIdeal := fun m g m' g' _ hargs =>
  ⟨_, (θ_run Cert.KernelIdeal.defs _ _).mono
      (fun _ h c => ⟨((h.1 c).1).trans (Cert.KernelIdeal.Exchange.outv_eq m _ _ _ _
        (fun c => (hargs c).1) (fun c => (hargs c).2.1) (fun c => (hargs c).2.2.1) (fun c => (hargs c).2.2.2) c), (h.1 c).2⟩)
      (Cert.KernelIdeal.Exchange.run_main (F := Ideal) m g),
    (θ_run Cert.ReferenceIdeal.defs _ _).mono (fun _ h => h 0) (Cert.ReferenceIdeal.Plain.run m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
